-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "taken" .f32 0xEFA18F08#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4x96x128x128 : Shape := ⟨5, ![1, 4, 96, 128, 128]⟩
abbrev S96 : Shape := ⟨1, ![96]⟩
abbrev S288x96 : Shape := ⟨2, ![288, 96]⟩
abbrev S288 : Shape := ⟨1, ![288]⟩
abbrev S96x96 : Shape := ⟨2, ![96, 96]⟩
abbrev S12x96 : Shape := ⟨2, ![12, 96]⟩
abbrev S12 : Shape := ⟨1, ![12]⟩
abbrev S96x12 : Shape := ⟨2, ![96, 12]⟩
abbrev S4x96x128x128 : Shape := ⟨4, ![4, 96, 128, 128]⟩
abbrev S96x1 : Shape := ⟨2, ![96, 1]⟩
abbrev S288x1 : Shape := ⟨2, ![288, 1]⟩
abbrev S12x1 : Shape := ⟨2, ![12, 1]⟩
abbrev S4x8x96x2x128 : Shape := ⟨5, ![4, 8, 96, 2, 128]⟩
abbrev S1x96x16x128 : Shape := ⟨4, ![1, 96, 16, 128]⟩
abbrev S1x1x96x2x128 : Shape := ⟨5, ![1, 1, 96, 2, 128]⟩
abbrev S96x16x128 : Shape := ⟨3, ![96, 16, 128]⟩
abbrev S16x128 : Shape := ⟨2, ![16, 128]⟩
abbrev S1x16x128 : Shape := ⟨3, ![1, 16, 128]⟩
abbrev S96x1x1 : Shape := ⟨3, ![96, 1, 1]⟩
abbrev S96x2048 : Shape := ⟨2, ![96, 2048]⟩
abbrev S288x2048 : Shape := ⟨2, ![288, 2048]⟩
abbrev S288x16x128 : Shape := ⟨3, ![288, 16, 128]⟩
abbrev S96x2x128 : Shape := ⟨3, ![96, 2, 128]⟩
abbrev S4x8x96x1 : Shape := ⟨4, ![4, 8, 96, 1]⟩
abbrev S1x1x96x1 : Shape := ⟨4, ![1, 1, 96, 1]⟩
abbrev S96x20x128 : Shape := ⟨3, ![96, 20, 128]⟩
abbrev S50x16x128 : Shape := ⟨3, ![50, 16, 128]⟩
abbrev S1x8x96x1 : Shape := ⟨4, ![1, 8, 96, 1]⟩
abbrev S8x96x1 : Shape := ⟨3, ![8, 96, 1]⟩

abbrev nBuf : Space → Nat
  | .hbm => 51
  | .vmem => 82
  | .smem => 0
  | _ => 0

abbrev bufTy : (tb : Table) → Fin (tcTables nBuf tb) → BufTy
  | .hbm, ⟨0, _⟩ => ⟨S1x4x96x128x128, .f32⟩
  | .hbm, ⟨1, _⟩ => ⟨S96, .f32⟩
  | .hbm, ⟨2, _⟩ => ⟨S96, .f32⟩
  | .hbm, ⟨3, _⟩ => ⟨S96, .f32⟩
  | .hbm, ⟨4, _⟩ => ⟨S96, .f32⟩
  | .hbm, ⟨5, _⟩ => ⟨S288x96, .f32⟩
  | .hbm, ⟨6, _⟩ => ⟨S288, .f32⟩
  | .hbm, ⟨7, _⟩ => ⟨S96x96, .f32⟩
  | .hbm, ⟨8, _⟩ => ⟨S96, .f32⟩
  | .hbm, ⟨9, _⟩ => ⟨S12x96, .f32⟩
  | .hbm, ⟨10, _⟩ => ⟨S12, .f32⟩
  | .hbm, ⟨11, _⟩ => ⟨S96x12, .f32⟩
  | .hbm, ⟨12, _⟩ => ⟨S96, .f32⟩
  | .hbm, ⟨13, _⟩ => ⟨S96x96, .f32⟩
  | .hbm, ⟨14, _⟩ => ⟨S96, .f32⟩
  | .hbm, ⟨15, _⟩ => ⟨S96x96, .f32⟩
  | .hbm, ⟨16, _⟩ => ⟨S96, .f32⟩
  | .hbm, ⟨17, _⟩ => ⟨S12x96, .f32⟩
  | .hbm, ⟨18, _⟩ => ⟨S12, .f32⟩
  | .hbm, ⟨19, _⟩ => ⟨S96x12, .f32⟩
  | .hbm, ⟨20, _⟩ => ⟨S96, .f32⟩
  | .hbm, ⟨21, _⟩ => ⟨S4x96x128x128, .f32⟩
  | .hbm, ⟨22, _⟩ => ⟨S96x1, .f32⟩
  | .hbm, ⟨23, _⟩ => ⟨S96x1, .f32⟩
  | .hbm, ⟨24, _⟩ => ⟨S96x1, .f32⟩
  | .hbm, ⟨25, _⟩ => ⟨S96x1, .f32⟩
  | .hbm, ⟨26, _⟩ => ⟨S288x1, .f32⟩
  | .hbm, ⟨27, _⟩ => ⟨S96x1, .f32⟩
  | .hbm, ⟨28, _⟩ => ⟨S96x1, .f32⟩
  | .hbm, ⟨29, _⟩ => ⟨S96x1, .f32⟩
  | .hbm, ⟨30, _⟩ => ⟨S12x1, .f32⟩
  | .hbm, ⟨31, _⟩ => ⟨S96x1, .f32⟩
  | .hbm, ⟨32, _⟩ => ⟨S12x1, .f32⟩
  | .hbm, ⟨33, _⟩ => ⟨S96x1, .f32⟩
  | .hbm, ⟨34, _⟩ => ⟨S288x96, .bf16⟩
  | .hbm, ⟨35, _⟩ => ⟨S4x96x128x128, .bf16⟩
  | .hbm, ⟨36, _⟩ => ⟨S4x96x128x128, .bf16⟩
  | .hbm, ⟨37, _⟩ => ⟨S4x96x128x128, .bf16⟩
  | .hbm, ⟨38, _⟩ => ⟨S4x8x96x2x128, .bf16⟩
  | .hbm, ⟨39, _⟩ => ⟨S4x8x96x2x128, .bf16⟩
  | .hbm, ⟨40, _⟩ => ⟨S4x8x96x2x128, .bf16⟩
  | .hbm, ⟨41, _⟩ => ⟨S4x8x96x2x128, .bf16⟩
  | .hbm, ⟨42, _⟩ => ⟨S96x96, .bf16⟩
  | .hbm, ⟨43, _⟩ => ⟨S4x96x128x128, .f32⟩
  | .hbm, ⟨44, _⟩ => ⟨S4x8x96x1, .f32⟩
  | .hbm, ⟨45, _⟩ => ⟨S96x96, .bf16⟩
  | .hbm, ⟨46, _⟩ => ⟨S96x96, .bf16⟩
  | .hbm, ⟨47, _⟩ => ⟨S4x96x128x128, .f32⟩
  | .hbm, ⟨48, _⟩ => ⟨S4x8x96x1, .f32⟩
  | .hbm, ⟨49, _⟩ => ⟨S4x96x128x128, .f32⟩
  | .hbm, ⟨50, _⟩ => ⟨S1x4x96x128x128, .f32⟩
  | .local _ .vmem, ⟨0, _⟩ => ⟨S1x96x16x128, .f32⟩
  | .local _ .vmem, ⟨1, _⟩ => ⟨S1x96x16x128, .f32⟩
  | .local _ .vmem, ⟨2, _⟩ => ⟨S96x1, .f32⟩
  | .local _ .vmem, ⟨3, _⟩ => ⟨S96x1, .f32⟩
  | .local _ .vmem, ⟨4, _⟩ => ⟨S288x96, .bf16⟩
  | .local _ .vmem, ⟨5, _⟩ => ⟨S288x1, .f32⟩
  | .local _ .vmem, ⟨6, _⟩ => ⟨S1x96x16x128, .bf16⟩
  | .local _ .vmem, ⟨7, _⟩ => ⟨S1x96x16x128, .bf16⟩
  | .local _ .vmem, ⟨8, _⟩ => ⟨S1x96x16x128, .bf16⟩
  | .local _ .vmem, ⟨9, _⟩ => ⟨S1x96x16x128, .bf16⟩
  | .local _ .vmem, ⟨10, _⟩ => ⟨S1x96x16x128, .bf16⟩
  | .local _ .vmem, ⟨11, _⟩ => ⟨S1x96x16x128, .bf16⟩
  | .local _ .vmem, ⟨12, _⟩ => ⟨S1x1x96x2x128, .bf16⟩
  | .local _ .vmem, ⟨13, _⟩ => ⟨S1x1x96x2x128, .bf16⟩
  | .local _ .vmem, ⟨14, _⟩ => ⟨S1x1x96x2x128, .bf16⟩
  | .local _ .vmem, ⟨15, _⟩ => ⟨S1x1x96x2x128, .bf16⟩
  | .local _ .vmem, ⟨16, _⟩ => ⟨S1x1x96x2x128, .bf16⟩
  | .local _ .vmem, ⟨17, _⟩ => ⟨S1x1x96x2x128, .bf16⟩
  | .local _ .vmem, ⟨18, _⟩ => ⟨S1x1x96x2x128, .bf16⟩
  | .local _ .vmem, ⟨19, _⟩ => ⟨S1x1x96x2x128, .bf16⟩
  | .local _ .vmem, ⟨20, _⟩ => ⟨S1x96x16x128, .bf16⟩
  | .local _ .vmem, ⟨21, _⟩ => ⟨S1x96x16x128, .bf16⟩
  | .local _ .vmem, ⟨22, _⟩ => ⟨S1x96x16x128, .bf16⟩
  | .local _ .vmem, ⟨23, _⟩ => ⟨S1x96x16x128, .bf16⟩
  | .local _ .vmem, ⟨24, _⟩ => ⟨S1x1x96x2x128, .bf16⟩
  | .local _ .vmem, ⟨25, _⟩ => ⟨S1x1x96x2x128, .bf16⟩
  | .local _ .vmem, ⟨26, _⟩ => ⟨S1x1x96x2x128, .bf16⟩
  | .local _ .vmem, ⟨27, _⟩ => ⟨S1x1x96x2x128, .bf16⟩
  | .local _ .vmem, ⟨28, _⟩ => ⟨S1x96x16x128, .bf16⟩
  | .local _ .vmem, ⟨29, _⟩ => ⟨S1x96x16x128, .bf16⟩
  | .local _ .vmem, ⟨30, _⟩ => ⟨S1x1x96x2x128, .bf16⟩
  | .local _ .vmem, ⟨31, _⟩ => ⟨S1x1x96x2x128, .bf16⟩
  | .local _ .vmem, ⟨32, _⟩ => ⟨S1x1x96x2x128, .bf16⟩
  | .local _ .vmem, ⟨33, _⟩ => ⟨S1x1x96x2x128, .bf16⟩
  | .local _ .vmem, ⟨34, _⟩ => ⟨S1x96x16x128, .bf16⟩
  | .local _ .vmem, ⟨35, _⟩ => ⟨S1x96x16x128, .bf16⟩
  | .local _ .vmem, ⟨36, _⟩ => ⟨S1x1x96x2x128, .bf16⟩
  | .local _ .vmem, ⟨37, _⟩ => ⟨S1x1x96x2x128, .bf16⟩
  | .local _ .vmem, ⟨38, _⟩ => ⟨S1x1x96x2x128, .bf16⟩
  | .local _ .vmem, ⟨39, _⟩ => ⟨S1x1x96x2x128, .bf16⟩
  | .local _ .vmem, ⟨40, _⟩ => ⟨S1x96x16x128, .bf16⟩
  | .local _ .vmem, ⟨41, _⟩ => ⟨S1x96x16x128, .bf16⟩
  | .local _ .vmem, ⟨42, _⟩ => ⟨S1x1x96x2x128, .bf16⟩
  | .local _ .vmem, ⟨43, _⟩ => ⟨S1x1x96x2x128, .bf16⟩
  | .local _ .vmem, ⟨44, _⟩ => ⟨S1x1x96x2x128, .bf16⟩
  | .local _ .vmem, ⟨45, _⟩ => ⟨S1x1x96x2x128, .bf16⟩
  | .local _ .vmem, ⟨46, _⟩ => ⟨S96x96, .bf16⟩
  | .local _ .vmem, ⟨47, _⟩ => ⟨S96x1, .f32⟩
  | .local _ .vmem, ⟨48, _⟩ => ⟨S1x96x16x128, .f32⟩
  | .local _ .vmem, ⟨49, _⟩ => ⟨S1x96x16x128, .f32⟩
  | .local _ .vmem, ⟨50, _⟩ => ⟨S1x1x96x1, .f32⟩
  | .local _ .vmem, ⟨51, _⟩ => ⟨S1x1x96x1, .f32⟩
  | .local _ .vmem, ⟨52, _⟩ => ⟨S1x96x16x128, .f32⟩
  | .local _ .vmem, ⟨53, _⟩ => ⟨S1x96x16x128, .f32⟩
  | .local _ .vmem, ⟨54, _⟩ => ⟨S1x96x16x128, .f32⟩
  | .local _ .vmem, ⟨55, _⟩ => ⟨S1x96x16x128, .f32⟩
  | .local _ .vmem, ⟨56, _⟩ => ⟨S1x8x96x1, .f32⟩
  | .local _ .vmem, ⟨57, _⟩ => ⟨S1x8x96x1, .f32⟩
  | .local _ .vmem, ⟨58, _⟩ => ⟨S12x96, .f32⟩
  | .local _ .vmem, ⟨59, _⟩ => ⟨S12x1, .f32⟩
  | .local _ .vmem, ⟨60, _⟩ => ⟨S96x12, .f32⟩
  | .local _ .vmem, ⟨61, _⟩ => ⟨S96x1, .f32⟩
  | .local _ .vmem, ⟨62, _⟩ => ⟨S96x1, .f32⟩
  | .local _ .vmem, ⟨63, _⟩ => ⟨S96x1, .f32⟩
  | .local _ .vmem, ⟨64, _⟩ => ⟨S96x96, .bf16⟩
  | .local _ .vmem, ⟨65, _⟩ => ⟨S96x1, .f32⟩
  | .local _ .vmem, ⟨66, _⟩ => ⟨S96x96, .bf16⟩
  | .local _ .vmem, ⟨67, _⟩ => ⟨S96x1, .f32⟩
  | .local _ .vmem, ⟨68, _⟩ => ⟨S1x96x16x128, .f32⟩
  | .local _ .vmem, ⟨69, _⟩ => ⟨S1x96x16x128, .f32⟩
  | .local _ .vmem, ⟨70, _⟩ => ⟨S1x1x96x1, .f32⟩
  | .local _ .vmem, ⟨71, _⟩ => ⟨S1x1x96x1, .f32⟩
  | .local _ .vmem, ⟨72, _⟩ => ⟨S1x96x16x128, .f32⟩
  | .local _ .vmem, ⟨73, _⟩ => ⟨S1x96x16x128, .f32⟩
  | .local _ .vmem, ⟨74, _⟩ => ⟨S1x8x96x1, .f32⟩
  | .local _ .vmem, ⟨75, _⟩ => ⟨S1x8x96x1, .f32⟩
  | .local _ .vmem, ⟨76, _⟩ => ⟨S12x96, .f32⟩
  | .local _ .vmem, ⟨77, _⟩ => ⟨S12x1, .f32⟩
  | .local _ .vmem, ⟨78, _⟩ => ⟨S96x12, .f32⟩
  | .local _ .vmem, ⟨79, _⟩ => ⟨S96x1, .f32⟩
  | .local _ .vmem, ⟨80, _⟩ => ⟨S1x96x16x128, .f32⟩
  | .local _ .vmem, ⟨81, _⟩ => ⟨S1x96x16x128, .f32⟩
  | _, _ => ⟨S1x4x96x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14_0 : Ref sig .tc := ⟨.hbm, 35, rfl⟩
abbrev main_v14_1 : Ref sig .tc := ⟨.hbm, 36, rfl⟩
abbrev main_v14_2 : Ref sig .tc := ⟨.hbm, 37, rfl⟩
abbrev main_v14_3 : Ref sig .tc := ⟨.hbm, 38, rfl⟩
abbrev main_v14_4 : Ref sig .tc := ⟨.hbm, 39, rfl⟩
abbrev main_v14_5 : Ref sig .tc := ⟨.hbm, 40, rfl⟩
abbrev main_v14_6 : Ref sig .tc := ⟨.hbm, 41, rfl⟩
abbrev main_v15 : Ref sig .tc := ⟨.hbm, 42, rfl⟩
abbrev main_v16_0 : Ref sig .tc := ⟨.hbm, 43, rfl⟩
abbrev main_v16_1 : Ref sig .tc := ⟨.hbm, 44, rfl⟩
abbrev main_v17 : Ref sig .tc := ⟨.hbm, 45, rfl⟩
abbrev main_v18 : Ref sig .tc := ⟨.hbm, 46, rfl⟩
abbrev main_v19_0 : Ref sig .tc := ⟨.hbm, 47, rfl⟩
abbrev main_v19_1 : Ref sig .tc := ⟨.hbm, 48, rfl⟩
abbrev main_v20 : Ref sig .tc := ⟨.hbm, 49, rfl⟩
abbrev main_v21 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg14_0 : Ref sig .tc := ⟨.vmem, 47, rfl⟩
abbrev cc1_stg15_0 : Ref sig .tc := ⟨.vmem, 48, rfl⟩
abbrev cc1_stg15_1 : Ref sig .tc := ⟨.vmem, 49, rfl⟩
abbrev cc1_stg16_0 : Ref sig .tc := ⟨.vmem, 50, rfl⟩
abbrev cc1_stg16_1 : Ref sig .tc := ⟨.vmem, 51, rfl⟩
abbrev cc2_stg0_0 : Ref sig .tc := ⟨.vmem, 52, rfl⟩
abbrev cc2_stg0_1 : Ref sig .tc := ⟨.vmem, 53, rfl⟩
abbrev cc2_stg1_0 : Ref sig .tc := ⟨.vmem, 54, rfl⟩
abbrev cc2_stg1_1 : Ref sig .tc := ⟨.vmem, 55, rfl⟩
abbrev cc2_stg2_0 : Ref sig .tc := ⟨.vmem, 56, rfl⟩
abbrev cc2_stg2_1 : Ref sig .tc := ⟨.vmem, 57, rfl⟩
abbrev cc2_stg3_0 : Ref sig .tc := ⟨.vmem, 58, rfl⟩
abbrev cc2_stg4_0 : Ref sig .tc := ⟨.vmem, 59, rfl⟩
abbrev cc2_stg5_0 : Ref sig .tc := ⟨.vmem, 60, rfl⟩
abbrev cc2_stg6_0 : Ref sig .tc := ⟨.vmem, 61, rfl⟩
abbrev cc2_stg7_0 : Ref sig .tc := ⟨.vmem, 62, rfl⟩
abbrev cc2_stg8_0 : Ref sig .tc := ⟨.vmem, 63, rfl⟩
abbrev cc2_stg9_0 : Ref sig .tc := ⟨.vmem, 64, rfl⟩
abbrev cc2_stg10_0 : Ref sig .tc := ⟨.vmem, 65, rfl⟩
abbrev cc2_stg11_0 : Ref sig .tc := ⟨.vmem, 66, rfl⟩
abbrev cc2_stg12_0 : Ref sig .tc := ⟨.vmem, 67, rfl⟩
abbrev cc2_stg13_0 : Ref sig .tc := ⟨.vmem, 68, rfl⟩
abbrev cc2_stg13_1 : Ref sig .tc := ⟨.vmem, 69, rfl⟩
abbrev cc2_stg14_0 : Ref sig .tc := ⟨.vmem, 70, rfl⟩
abbrev cc2_stg14_1 : Ref sig .tc := ⟨.vmem, 71, rfl⟩
abbrev cc3_stg0_0 : Ref sig .tc := ⟨.vmem, 72, rfl⟩
abbrev cc3_stg0_1 : Ref sig .tc := ⟨.vmem, 73, rfl⟩
abbrev cc3_stg1_0 : Ref sig .tc := ⟨.vmem, 74, rfl⟩
abbrev cc3_stg1_1 : Ref sig .tc := ⟨.vmem, 75, rfl⟩
abbrev cc3_stg2_0 : Ref sig .tc := ⟨.vmem, 76, rfl⟩
abbrev cc3_stg3_0 : Ref sig .tc := ⟨.vmem, 77, rfl⟩
abbrev cc3_stg4_0 : Ref sig .tc := ⟨.vmem, 78, rfl⟩
abbrev cc3_stg5_0 : Ref sig .tc := ⟨.vmem, 79, rfl⟩
abbrev cc3_stg6_0 : Ref sig .tc := ⟨.vmem, 80, rfl⟩
abbrev cc3_stg6_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem14_0 : DmaSem sig := 47
abbrev cc1_sem15_0 : DmaSem sig := 48
abbrev cc1_sem15_1 : DmaSem sig := 49
abbrev cc1_sem16_0 : DmaSem sig := 50
abbrev cc1_sem16_1 : DmaSem sig := 51
abbrev cc2_sem0_0 : DmaSem sig := 52
abbrev cc2_sem0_1 : DmaSem sig := 53
abbrev cc2_sem1_0 : DmaSem sig := 54
abbrev cc2_sem1_1 : DmaSem sig := 55
abbrev cc2_sem2_0 : DmaSem sig := 56
abbrev cc2_sem2_1 : DmaSem sig := 57
abbrev cc2_sem3_0 : DmaSem sig := 58
abbrev cc2_sem4_0 : DmaSem sig := 59
abbrev cc2_sem5_0 : DmaSem sig := 60
abbrev cc2_sem6_0 : DmaSem sig := 61
abbrev cc2_sem7_0 : DmaSem sig := 62
abbrev cc2_sem8_0 : DmaSem sig := 63
abbrev cc2_sem9_0 : DmaSem sig := 64
abbrev cc2_sem10_0 : DmaSem sig := 65
abbrev cc2_sem11_0 : DmaSem sig := 66
abbrev cc2_sem12_0 : DmaSem sig := 67
abbrev cc2_sem13_0 : DmaSem sig := 68
abbrev cc2_sem13_1 : DmaSem sig := 69
abbrev cc2_sem14_0 : DmaSem sig := 70
abbrev cc2_sem14_1 : DmaSem sig := 71
abbrev cc3_sem0_0 : DmaSem sig := 72
abbrev cc3_sem0_1 : DmaSem sig := 73
abbrev cc3_sem1_0 : DmaSem sig := 74
abbrev cc3_sem1_1 : DmaSem sig := 75
abbrev cc3_sem2_0 : DmaSem sig := 76
abbrev cc3_sem3_0 : DmaSem sig := 77
abbrev cc3_sem4_0 : DmaSem sig := 78
abbrev cc3_sem5_0 : DmaSem sig := 79
abbrev cc3_sem6_0 : DmaSem sig := 80
abbrev cc3_sem6_1 : DmaSem sig := 81

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x96x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S288x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x96x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x16x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x16x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x96x2x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x96x2x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x96x2x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x96x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨2, ![4, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c1_i32 : BitVec 32 := 1#32
  let v1 : BitVec 32 := Scalar.subi v0 c1_i32
  let c8_i32_0 : BitVec 32 := 8#32
  let c0_i32 : BitVec 32 := 0#32
  let v2 : BitVec 1 := Scalar.cmpi .eq c8_i32_0 c0_i32
  let c1_i32_1 : BitVec 32 := 1#32
  let v3 : BitVec 32 := Scalar.select v2 c1_i32_1 c8_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  let c0_i32_8 : BitVec 32 := 0#32
  ![arg0.toNat, v11.toNat, c0_i32_5.toNat, c0_i32_6.toNat, c0_i32_7.toNat]

def cc1_transform_3 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![arg0.toNat, v10.toNat, c0_i32_4.toNat, c0_i32_5.toNat, c0_i32_6.toNat]

def cc1_transform_4 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, arg1.toNat, c0_i32_6.toNat]

def cc1_transform_5 (i : grid1.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 32 := Scalar.addi arg1 c8_i32
  let c1_i32_5 : BitVec 32 := 1#32
  let v13 : BitVec 32 := Scalar.subi v12 c1_i32_5
  let c8_i32_6 : BitVec 32 := 8#32
  let c0_i32_7 : BitVec 32 := 0#32
  let v14 : BitVec 1 := Scalar.cmpi .eq c8_i32_6 c0_i32_7
  let c1_i32_8 : BitVec 32 := 1#32
  let v15 : BitVec 32 := Scalar.select v14 c1_i32_8 c8_i32_6
  let v16 : BitVec 32 := Scalar.remsi v13 v15
  let c0_i32_9 : BitVec 32 := 0#32
  let v17 : BitVec 1 := Scalar.cmpi .ne v16 c0_i32_9
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let v21 : BitVec 1 := Scalar.andi v20 v17
  let v22 : BitVec 32 := Scalar.addi v16 v15
  let v23 : BitVec 32 := Scalar.select v21 v22 v16
  let c0_i32_12 : BitVec 32 := 0#32
  let c0_i32_13 : BitVec 32 := 0#32
  let c0_i32_14 : BitVec 32 := 0#32
  let c0_i32_15 : BitVec 32 := 0#32
  ![v11.toNat, v23.toNat, c0_i32_12.toNat, c0_i32_13.toNat, c0_i32_14.toNat]

def cc1_transform_6 (i : grid1.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi arg1 c1_i32_5
  let c8_i32 : BitVec 32 := 8#32
  let c0_i32_6 : BitVec 32 := 0#32
  let v13 : BitVec 1 := Scalar.cmpi .eq c8_i32 c0_i32_6
  let c1_i32_7 : BitVec 32 := 1#32
  let v14 : BitVec 32 := Scalar.select v13 c1_i32_7 c8_i32
  let v15 : BitVec 32 := Scalar.remsi v12 v14
  let c0_i32_8 : BitVec 32 := 0#32
  let v16 : BitVec 1 := Scalar.cmpi .ne v15 c0_i32_8
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let v20 : BitVec 1 := Scalar.andi v19 v16
  let v21 : BitVec 32 := Scalar.addi v15 v14
  let v22 : BitVec 32 := Scalar.select v20 v21 v15
  let c0_i32_11 : BitVec 32 := 0#32
  let c0_i32_12 : BitVec 32 := 0#32
  let c0_i32_13 : BitVec 32 := 0#32
  let c0_i32_14 : BitVec 32 := 0#32
  ![v11.toNat, v22.toNat, c0_i32_11.toNat, c0_i32_12.toNat, c0_i32_13.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c1_i32 : BitVec 32 := 1#32
  let v1 : BitVec 32 := Scalar.subi v0 c1_i32
  let c8_i32_0 : BitVec 32 := 8#32
  let c0_i32 : BitVec 32 := 0#32
  let v2 : BitVec 1 := Scalar.cmpi .eq c8_i32_0 c0_i32
  let c1_i32_1 : BitVec 32 := 1#32
  let v3 : BitVec 32 := Scalar.select v2 c1_i32_1 c8_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  let c0_i32_8 : BitVec 32 := 0#32
  ![arg0.toNat, v11.toNat, c0_i32_5.toNat, c0_i32_6.toNat, c0_i32_7.toNat]

def cc1_transform_9 (i : grid1.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let c0_i32 : BitVec 32 := 0#32
  let v1 : BitVec 1 := Scalar.cmpi .eq c8_i32 c0_i32
  let c1_i32_0 : BitVec 32 := 1#32
  let v2 : BitVec 32 := Scalar.select v1 c1_i32_0 c8_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  let c0_i32_6 : BitVec 32 := 0#32
  let c0_i32_7 : BitVec 32 := 0#32
  ![arg0.toNat, v10.toNat, c0_i32_4.toNat, c0_i32_5.toNat, c0_i32_6.toNat]

def cc1_transform_10 (i : grid1.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![v11.toNat, c0_i32_5.toNat, arg1.toNat, c0_i32_6.toNat]

def cc1_transform_11 (i : grid1.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c8_i32 : BitVec 32 := 8#32
  let v12 : BitVec 32 := Scalar.addi arg1 c8_i32
  let c1_i32_5 : BitVec 32 := 1#32
  let v13 : BitVec 32 := Scalar.subi v12 c1_i32_5
  let c8_i32_6 : BitVec 32 := 8#32
  let c0_i32_7 : BitVec 32 := 0#32
  let v14 : BitVec 1 := Scalar.cmpi .eq c8_i32_6 c0_i32_7
  let c1_i32_8 : BitVec 32 := 1#32
  let v15 : BitVec 32 := Scalar.select v14 c1_i32_8 c8_i32_6
  let v16 : BitVec 32 := Scalar.remsi v13 v15
  let c0_i32_9 : BitVec 32 := 0#32
  let v17 : BitVec 1 := Scalar.cmpi .ne v16 c0_i32_9
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let v21 : BitVec 1 := Scalar.andi v20 v17
  let v22 : BitVec 32 := Scalar.addi v16 v15
  let v23 : BitVec 32 := Scalar.select v21 v22 v16
  let c0_i32_12 : BitVec 32 := 0#32
  let c0_i32_13 : BitVec 32 := 0#32
  let c0_i32_14 : BitVec 32 := 0#32
  let c0_i32_15 : BitVec 32 := 0#32
  ![v11.toNat, v23.toNat, c0_i32_12.toNat, c0_i32_13.toNat, c0_i32_14.toNat]

def cc1_transform_12 (i : grid1.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let v1 : BitVec 32 := Scalar.subi v0 c1_i32
  let c4_i32_0 : BitVec 32 := 4#32
  let c0_i32 : BitVec 32 := 0#32
  let v2 : BitVec 1 := Scalar.cmpi .eq c4_i32_0 c0_i32
  let c1_i32_1 : BitVec 32 := 1#32
  let v3 : BitVec 32 := Scalar.select v2 c1_i32_1 c4_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c1_i32_5 : BitVec 32 := 1#32
  let v12 : BitVec 32 := Scalar.addi arg1 c1_i32_5
  let c8_i32 : BitVec 32 := 8#32
  let c0_i32_6 : BitVec 32 := 0#32
  let v13 : BitVec 1 := Scalar.cmpi .eq c8_i32 c0_i32_6
  let c1_i32_7 : BitVec 32 := 1#32
  let v14 : BitVec 32 := Scalar.select v13 c1_i32_7 c8_i32
  let v15 : BitVec 32 := Scalar.remsi v12 v14
  let c0_i32_8 : BitVec 32 := 0#32
  let v16 : BitVec 1 := Scalar.cmpi .ne v15 c0_i32_8
  let c0_i32_9 : BitVec 32 := 0#32
  let v17 : BitVec 1 := Scalar.cmpi .slt v15 c0_i32_9
  let c0_i32_10 : BitVec 32 := 0#32
  let v18 : BitVec 1 := Scalar.cmpi .slt v14 c0_i32_10
  let v19 : BitVec 1 := Scalar.xori v17 v18
  let v20 : BitVec 1 := Scalar.andi v19 v16
  let v21 : BitVec 32 := Scalar.addi v15 v14
  let v22 : BitVec 32 := Scalar.select v20 v21 v15
  let c0_i32_11 : BitVec 32 := 0#32
  let c0_i32_12 : BitVec 32 := 0#32
  let c0_i32_13 : BitVec 32 := 0#32
  let c0_i32_14 : BitVec 32 := 0#32
  ![v11.toNat, v22.toNat, c0_i32_11.toNat, c0_i32_12.toNat, c0_i32_13.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_16 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x96x16x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x96x16x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x96x2x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x96x2x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x96x16x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x96x2x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x96x2x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x96x16x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x96x2x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1x96x2x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x96x16x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x96x2x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x96x2x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 1 → Memref sig .tc .vmem S96x96 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S96x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x96x16x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x1x96x1 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_14 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x96x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x96x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x8x96x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S12x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S12x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S96x12 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S96x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S96x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S96x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S96x96 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S96x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S96x96 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S96x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 2 → Memref sig .tc .vmem S1x96x16x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S1x1x96x1 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![4, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x96x16x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x8x96x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S12x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S12x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S96x12 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S96x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x96x16x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== KernelIdeal.lean ====
variable {F : FTy → Type} [FloatOps F] [Named F]
def κ : String → Option EReal := fun
  | "mask" => some ⊥
  | "taken" => some ⊥
  | _ => none
-- ==== ReferenceIdeal.lean ====
abbrev S1x4x96x128x128 : Shape := ⟨5, ![1, 4, 96, 128, 128]⟩
abbrev S96 : Shape := ⟨1, ![96]⟩
abbrev S288x96 : Shape := ⟨2, ![288, 96]⟩
abbrev S288 : Shape := ⟨1, ![288]⟩
abbrev S96x96 : Shape := ⟨2, ![96, 96]⟩
abbrev S12x96 : Shape := ⟨2, ![12, 96]⟩
abbrev S12 : Shape := ⟨1, ![12]⟩
abbrev S96x12 : Shape := ⟨2, ![96, 12]⟩
abbrev S4x96x128x128 : Shape := ⟨4, ![4, 96, 128, 128]⟩
abbrev S_ : Shape := ⟨0, ![]⟩
abbrev S4x128x128 : Shape := ⟨3, ![4, 128, 128]⟩
abbrev S4x1x128x128 : Shape := ⟨4, ![4, 1, 128, 128]⟩
abbrev S1x96x1x1 : Shape := ⟨4, ![1, 96, 1, 1]⟩
abbrev S288x4x128x128 : Shape := ⟨4, ![288, 4, 128, 128]⟩
abbrev S4x288x128x128 : Shape := ⟨4, ![4, 288, 128, 128]⟩
abbrev S1x288x1x1 : Shape := ⟨4, ![1, 288, 1, 1]⟩
abbrev S4x192x128x128 : Shape := ⟨4, ![4, 192, 128, 128]⟩
abbrev S1x4x192x128x128 : Shape := ⟨5, ![1, 4, 192, 128, 128]⟩
abbrev S1x4x192x128x2 : Shape := ⟨5, ![1, 4, 192, 128, 2]⟩
abbrev S1x4x192x128x132 : Shape := ⟨5, ![1, 4, 192, 128, 132]⟩
abbrev S5x4x192x128x128 : Shape := ⟨5, ![5, 4, 192, 128, 128]⟩
abbrev S5x4x192x2x128 : Shape := ⟨5, ![5, 4, 192, 2, 128]⟩
abbrev S5x4x192x132x128 : Shape := ⟨5, ![5, 4, 192, 132, 128]⟩
abbrev S25x4x192x128x128 : Shape := ⟨5, ![25, 4, 192, 128, 128]⟩
abbrev S25x1x192x128x128 : Shape := ⟨5, ![25, 1, 192, 128, 128]⟩
abbrev S25x3x192x128x128 : Shape := ⟨5, ![25, 3, 192, 128, 128]⟩
abbrev S50x4x192x128x128 : Shape := ⟨5, ![50, 4, 192, 128, 128]⟩
abbrev S50x4x96x128x128 : Shape := ⟨5, ![50, 4, 96, 128, 128]⟩
abbrev S50x4x128x128 : Shape := ⟨4, ![50, 4, 128, 128]⟩
abbrev S4x128x128x50 : Shape := ⟨4, ![4, 128, 128, 50]⟩
abbrev S4x128x128x10 : Shape := ⟨4, ![4, 128, 128, 10]⟩
abbrev S4x128x128x1 : Shape := ⟨4, ![4, 128, 128, 1]⟩
abbrev S50 : Shape := ⟨1, ![50]⟩
abbrev S4x128x128x10x1 : Shape := ⟨5, ![4, 128, 128, 10, 1]⟩
abbrev S1x1x1x1x50 : Shape := ⟨5, ![1, 1, 1, 1, 50]⟩
abbrev S4x128x128x10x50 : Shape := ⟨5, ![4, 128, 128, 10, 50]⟩
abbrev S50x4x1x128x128 : Shape := ⟨5, ![50, 4, 1, 128, 128]⟩
abbrev S96x4x128x128 : Shape := ⟨4, ![96, 4, 128, 128]⟩
abbrev S4x96 : Shape := ⟨2, ![4, 96]⟩
abbrev S4x12 : Shape := ⟨2, ![4, 12]⟩
abbrev S1x12 : Shape := ⟨2, ![1, 12]⟩
abbrev S1x96 : Shape := ⟨2, ![1, 96]⟩
abbrev S4x96x1x1 : Shape := ⟨4, ![4, 96, 1, 1]⟩

abbrev nBuf : Space → Nat
  | .hbm => 227
  | .vmem => 0
  | .smem => 0
  | _ => 0

abbrev hbmTy0_0 (i : Nat) : BufTy := match i % 128 with
  | 0 => ⟨S1x4x96x128x128, .f32⟩
  | 1 => ⟨S96, .f32⟩
  | 2 => ⟨S96, .f32⟩
  | 3 => ⟨S96, .f32⟩
  | 4 => ⟨S96, .f32⟩
  | 5 => ⟨S288x96, .f32⟩
  | 6 => ⟨S288, .f32⟩
  | 7 => ⟨S96x96, .f32⟩
  | 8 => ⟨S96, .f32⟩
  | 9 => ⟨S12x96, .f32⟩
  | 10 => ⟨S12, .f32⟩
  | 11 => ⟨S96x12, .f32⟩
  | 12 => ⟨S96, .f32⟩
  | 13 => ⟨S96x96, .f32⟩
  | 14 => ⟨S96, .f32⟩
  | 15 => ⟨S96x96, .f32⟩
  | 16 => ⟨S96, .f32⟩
  | 17 => ⟨S12x96, .f32⟩
  | 18 => ⟨S12, .f32⟩
  | 19 => ⟨S96x12, .f32⟩
  | 20 => ⟨S96, .f32⟩
  | 21 => ⟨S4x96x128x128, .f32⟩
  | 22 => ⟨S_, .f32⟩
  | 23 => ⟨S4x128x128, .f32⟩
  | 24 => ⟨S4x1x128x128, .f32⟩
  | 25 => ⟨S_, .f32⟩
  | 26 => ⟨S4x1x128x128, .f32⟩
  | 27 => ⟨S4x1x128x128, .f32⟩
  | 28 => ⟨S4x96x128x128, .f32⟩
  | 29 => ⟨S4x96x128x128, .f32⟩
  | 30 => ⟨S4x96x128x128, .f32⟩
  | 31 => ⟨S_, .f32⟩
  | 32 => ⟨S4x128x128, .f32⟩
  | 33 => ⟨S4x1x128x128, .f32⟩
  | 34 => ⟨S_, .f32⟩
  | 35 => ⟨S4x1x128x128, .f32⟩
  | 36 => ⟨S4x1x128x128, .f32⟩
  | 37 => ⟨S4x96x128x128, .f32⟩
  | 38 => ⟨S4x96x128x128, .f32⟩
  | 39 => ⟨S_, .f32⟩
  | 40 => ⟨S4x1x128x128, .f32⟩
  | 41 => ⟨S4x1x128x128, .f32⟩
  | 42 => ⟨S4x1x128x128, .f32⟩
  | 43 => ⟨S4x96x128x128, .f32⟩
  | 44 => ⟨S4x96x128x128, .f32⟩
  | 45 => ⟨S1x96x1x1, .f32⟩
  | 46 => ⟨S4x96x128x128, .f32⟩
  | 47 => ⟨S4x96x128x128, .f32⟩
  | 48 => ⟨S1x96x1x1, .f32⟩
  | 49 => ⟨S4x96x128x128, .f32⟩
  | 50 => ⟨S4x96x128x128, .f32⟩
  | 51 => ⟨S288x4x128x128, .f32⟩
  | 52 => ⟨S4x288x128x128, .f32⟩
  | 53 => ⟨S1x288x1x1, .f32⟩
  | 54 => ⟨S4x288x128x128, .f32⟩
  | 55 => ⟨S4x288x128x128, .f32⟩
  | 56 => ⟨S4x96x128x128, .f32⟩
  | 57 => ⟨S4x192x128x128, .f32⟩
  | 58 => ⟨S1x4x192x128x128, .f32⟩
  | 59 => ⟨S1x4x192x128x2, .f32⟩
  | 60 => ⟨S1x4x192x128x2, .f32⟩
  | 61 => ⟨S1x4x192x128x132, .f32⟩
  | 62 => ⟨S1x4x192x128x128, .f32⟩
  | 63 => ⟨S1x4x192x128x128, .f32⟩
  | 64 => ⟨S1x4x192x128x128, .f32⟩
  | 65 => ⟨S1x4x192x128x128, .f32⟩
  | 66 => ⟨S1x4x192x128x128, .f32⟩
  | 67 => ⟨S5x4x192x128x128, .f32⟩
  | 68 => ⟨S5x4x192x2x128, .f32⟩
  | 69 => ⟨S5x4x192x2x128, .f32⟩
  | 70 => ⟨S5x4x192x132x128, .f32⟩
  | 71 => ⟨S5x4x192x128x128, .f32⟩
  | 72 => ⟨S5x4x192x128x128, .f32⟩
  | 73 => ⟨S5x4x192x128x128, .f32⟩
  | 74 => ⟨S5x4x192x128x128, .f32⟩
  | 75 => ⟨S5x4x192x128x128, .f32⟩
  | 76 => ⟨S25x4x192x128x128, .f32⟩
  | 77 => ⟨S25x1x192x128x128, .f32⟩
  | 78 => ⟨S25x3x192x128x128, .f32⟩
  | 79 => ⟨S25x4x192x128x128, .f32⟩
  | 80 => ⟨S50x4x192x128x128, .f32⟩
  | 81 => ⟨S1x4x96x128x128, .f32⟩
  | 82 => ⟨S50x4x96x128x128, .f32⟩
  | 83 => ⟨S50x4x96x128x128, .f32⟩
  | 84 => ⟨S50x4x96x128x128, .f32⟩
  | 85 => ⟨S_, .f32⟩
  | 86 => ⟨S50x4x128x128, .f32⟩
  | 87 => ⟨S_, .f32⟩
  | 88 => ⟨S50x4x128x128, .f32⟩
  | 89 => ⟨S50x4x128x128, .f32⟩
  | 90 => ⟨S4x128x128x50, .f32⟩
  | 91 => ⟨S4x128x128x10, .f32⟩
  | 92 => ⟨S4x128x128x10, .i32⟩
  | 93 => ⟨S_, .f32⟩
  | 94 => ⟨S4x128x128, .f32⟩
  | 95 => ⟨S4x128x128x1, .f32⟩
  | 96 => ⟨S4x128x128x10, .f32⟩
  | 97 => ⟨S4x128x128x10, .f32⟩
  | 98 => ⟨S4x128x128x10, .f32⟩
  | 99 => ⟨S50, .i32⟩
  | 100 => ⟨S4x128x128x10x1, .f32⟩
  | 101 => ⟨S4x128x128x10x1, .i32⟩
  | 102 => ⟨S1x1x1x1x50, .i32⟩
  | 103 => ⟨S4x128x128x10x50, .i32⟩
  | 104 => ⟨S4x128x128x10x50, .i32⟩
  | 105 => ⟨S4x128x128x10x50, .i1⟩
  | 106 => ⟨S4x128x128x10x50, .f32⟩
  | 107 => ⟨S4x128x128x10x50, .f32⟩
  | 108 => ⟨S4x128x128x10x50, .f32⟩
  | 109 => ⟨S_, .f32⟩
  | 110 => ⟨S4x128x128x50, .f32⟩
  | 111 => ⟨S_, .f32⟩
  | 112 => ⟨S4x128x128, .f32⟩
  | 113 => ⟨S4x128x128x1, .f32⟩
  | 114 => ⟨S4x128x128x50, .f32⟩
  | 115 => ⟨S4x128x128x50, .f32⟩
  | 116 => ⟨S50x4x128x128, .f32⟩
  | 117 => ⟨S50x4x1x128x128, .f32⟩
  | 118 => ⟨S50x4x96x128x128, .f32⟩
  | 119 => ⟨S50x4x96x128x128, .f32⟩
  | 120 => ⟨S50x4x96x128x128, .f32⟩
  | 121 => ⟨S_, .f32⟩
  | 122 => ⟨S4x96x128x128, .f32⟩
  | 123 => ⟨S96x4x128x128, .f32⟩
  | 124 => ⟨S4x96x128x128, .f32⟩
  | 125 => ⟨S1x96x1x1, .f32⟩
  | 126 => ⟨S4x96x128x128, .f32⟩
  | 127 => ⟨S4x96x128x128, .f32⟩
  | _ => ⟨S1x4x96x128x128, .f32⟩

abbrev hbmTy0_1 (i : Nat) : BufTy := match i % 128 with
  | 0 => ⟨S_, .f32⟩
  | 1 => ⟨S4x96, .f32⟩
  | 2 => ⟨S_, .f32⟩
  | 3 => ⟨S4x96, .f32⟩
  | 4 => ⟨S4x96, .f32⟩
  | 5 => ⟨S4x12, .f32⟩
  | 6 => ⟨S1x12, .f32⟩
  | 7 => ⟨S4x12, .f32⟩
  | 8 => ⟨S4x12, .f32⟩
  | 9 => ⟨S_, .f32⟩
  | 10 => ⟨S4x12, .f32⟩
  | 11 => ⟨S4x12, .f32⟩
  | 12 => ⟨S4x96, .f32⟩
  | 13 => ⟨S1x96, .f32⟩
  | 14 => ⟨S4x96, .f32⟩
  | 15 => ⟨S4x96, .f32⟩
  | 16 => ⟨S4x96, .f32⟩
  | 17 => ⟨S4x96, .f32⟩
  | 18 => ⟨S_, .f32⟩
  | 19 => ⟨S4x96, .f32⟩
  | 20 => ⟨S4x96, .f32⟩
  | 21 => ⟨S_, .f32⟩
  | 22 => ⟨S4x96, .f32⟩
  | 23 => ⟨S4x96, .f32⟩
  | 24 => ⟨S4x96x1x1, .f32⟩
  | 25 => ⟨S4x96x128x128, .f32⟩
  | 26 => ⟨S4x96x128x128, .f32⟩
  | 27 => ⟨S4x96x128x128, .f32⟩
  | 28 => ⟨S_, .f32⟩
  | 29 => ⟨S4x128x128, .f32⟩
  | 30 => ⟨S4x1x128x128, .f32⟩
  | 31 => ⟨S_, .f32⟩
  | 32 => ⟨S4x1x128x128, .f32⟩
  | 33 => ⟨S4x1x128x128, .f32⟩
  | 34 => ⟨S4x96x128x128, .f32⟩
  | 35 => ⟨S4x96x128x128, .f32⟩
  | 36 => ⟨S4x96x128x128, .f32⟩
  | 37 => ⟨S_, .f32⟩
  | 38 => ⟨S4x128x128, .f32⟩
  | 39 => ⟨S4x1x128x128, .f32⟩
  | 40 => ⟨S_, .f32⟩
  | 41 => ⟨S4x1x128x128, .f32⟩
  | 42 => ⟨S4x1x128x128, .f32⟩
  | 43 => ⟨S4x96x128x128, .f32⟩
  | 44 => ⟨S4x96x128x128, .f32⟩
  | 45 => ⟨S_, .f32⟩
  | 46 => ⟨S4x1x128x128, .f32⟩
  | 47 => ⟨S4x1x128x128, .f32⟩
  | 48 => ⟨S4x1x128x128, .f32⟩
  | 49 => ⟨S4x96x128x128, .f32⟩
  | 50 => ⟨S4x96x128x128, .f32⟩
  | 51 => ⟨S1x96x1x1, .f32⟩
  | 52 => ⟨S4x96x128x128, .f32⟩
  | 53 => ⟨S4x96x128x128, .f32⟩
  | 54 => ⟨S1x96x1x1, .f32⟩
  | 55 => ⟨S4x96x128x128, .f32⟩
  | 56 => ⟨S4x96x128x128, .f32⟩
  | 57 => ⟨S96x4x128x128, .f32⟩
  | 58 => ⟨S4x96x128x128, .f32⟩
  | 59 => ⟨S1x96x1x1, .f32⟩
  | 60 => ⟨S4x96x128x128, .f32⟩
  | 61 => ⟨S4x96x128x128, .f32⟩
  | 62 => ⟨S_, .f32⟩
  | 63 => ⟨S4x96x128x128, .f32⟩
  | 64 => ⟨S4x96x128x128, .f32⟩
  | 65 => ⟨S96x4x128x128, .f32⟩
  | 66 => ⟨S4x96x128x128, .f32⟩
  | 67 => ⟨S1x96x1x1, .f32⟩
  | 68 => ⟨S4x96x128x128, .f32⟩
  | 69 => ⟨S4x96x128x128, .f32⟩
  | 70 => ⟨S4x96x128x128, .f32⟩
  | 71 => ⟨S_, .f32⟩
  | 72 => ⟨S4x96, .f32⟩
  | 73 => ⟨S_, .f32⟩
  | 74 => ⟨S4x96, .f32⟩
  | 75 => ⟨S4x96, .f32⟩
  | 76 => ⟨S4x12, .f32⟩
  | 77 => ⟨S1x12, .f32⟩
  | 78 => ⟨S4x12, .f32⟩
  | 79 => ⟨S4x12, .f32⟩
  | 80 => ⟨S_, .f32⟩
  | 81 => ⟨S4x12, .f32⟩
  | 82 => ⟨S4x12, .f32⟩
  | 83 => ⟨S4x96, .f32⟩
  | 84 => ⟨S1x96, .f32⟩
  | 85 => ⟨S4x96, .f32⟩
  | 86 => ⟨S4x96, .f32⟩
  | 87 => ⟨S4x96, .f32⟩
  | 88 => ⟨S4x96, .f32⟩
  | 89 => ⟨S_, .f32⟩
  | 90 => ⟨S4x96, .f32⟩
  | 91 => ⟨S4x96, .f32⟩
  | 92 => ⟨S_, .f32⟩
  | 93 => ⟨S4x96, .f32⟩
  | 94 => ⟨S4x96, .f32⟩
  | 95 => ⟨S4x96x1x1, .f32⟩
  | 96 => ⟨S4x96x128x128, .f32⟩
  | 97 => ⟨S4x96x128x128, .f32⟩
  | 98 => ⟨S1x4x96x128x128, .f32⟩
  | _ => ⟨S1x4x96x128x128, .f32⟩

abbrev hbmTy (i : Nat) : BufTy := match i / 128 with
  | 0 => hbmTy0_0 i
  | 1 => hbmTy0_1 i
  | _ => ⟨S1x4x96x128x128, .f32⟩

abbrev bufTy : (tb : Table) → Fin (tcTables nBuf tb) → BufTy
  | .hbm, ⟨i, _⟩ => hbmTy i
  | _, _ => ⟨S1x4x96x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_4 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_values : Ref sig .tc := ⟨.hbm, 91, rfl⟩
abbrev main_indices : Ref sig .tc := ⟨.hbm, 92, rfl⟩
abbrev main_cst_6 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_7 : Ref sig .tc := ⟨.hbm, 109, rfl⟩
abbrev main_v78 : Ref sig .tc := ⟨.hbm, 110, rfl⟩
abbrev main_cst_8 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_9 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_10 : Ref sig .tc := ⟨.hbm, 128, rfl⟩
abbrev main_v94 : Ref sig .tc := ⟨.hbm, 129, rfl⟩
abbrev main_cst_11 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_12 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_13 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_15 : Ref sig .tc := ⟨.hbm, 156, rfl⟩
abbrev main_v117 : Ref sig .tc := ⟨.hbm, 157, rfl⟩
abbrev main_v118 : Ref sig .tc := ⟨.hbm, 158, rfl⟩
abbrev main_cst_16 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_17 : Ref sig .tc := ⟨.hbm, 165, rfl⟩
abbrev main_v124 : Ref sig .tc := ⟨.hbm, 166, rfl⟩
abbrev main_v125 : Ref sig .tc := ⟨.hbm, 167, rfl⟩
abbrev main_cst_18 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_19 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_20 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_cst_21 : Ref sig .tc := ⟨.hbm, 199, rfl⟩
abbrev main_v154 : Ref sig .tc := ⟨.hbm, 200, rfl⟩
abbrev main_cst_22 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_cst_23 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_24 : Ref sig .tc := ⟨.hbm, 217, rfl⟩
abbrev main_v169 : Ref sig .tc := ⟨.hbm, 218, rfl⟩
abbrev main_v170 : Ref sig .tc := ⟨.hbm, 219, rfl⟩
abbrev main_cst_25 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩

abbrev nD : Nat := 1
abbrev τ : Topo := Topo.v7x

variable {F : FTy → Type} [FloatOps F]
-- ==== Proof.Layers.lean ====
module

public import Idealize.ShloMosaic.Lib.SortFacts
public import Idealize.ShloMosaic.PureOps.Ideal

/-! The layers both programs share, as functions of extended reals: the normalisation over the channels, the channel gate, and the
    two-layer residual block. -/

@[expose] public section
noncomputable section

namespace Cert.Layer
open Idealize.ShloMosaic

/-- The number of channels, as the programs write it. -/
abbrev count : EReal := Ideal.ofBits .f32 0x42C00000#32
/-- The normalisation's small constant. -/
abbrev tiny : EReal := Ideal.ofBits .f32 0x358637BD#32

/-- The channels' mean. -/
def mean (f : Fin 96 → EReal) : EReal := Ideal.div (∑ c, f c) count
/-- Their mean squared distance from the mean. -/
def spread (f : Fin 96 → EReal) : EReal := Ideal.div (∑ c, (f c - mean f) * (f c - mean f)) count
/-- The normalised channels, scaled and shifted. -/
def norm (f g b : Fin 96 → EReal) (c : Fin 96) : EReal :=
  (f c - mean f) * Ideal.rsqrt (spread f + tiny) * g c + b c

/-- One affine map. -/
def affine {n k : ℕ} (W : Fin n → Fin k → EReal) (b : Fin n → EReal) (f : Fin k → EReal) (i : Fin n) : EReal :=
  (∑ c, W i c * f c) + b i

/-- The channel gate of the channels' averages. -/
def gate (W1 : Fin 12 → Fin 96 → EReal) (b1 : Fin 12 → EReal) (W2 : Fin 96 → Fin 12 → EReal) (b2 : Fin 96 → EReal)
    (p : Fin 96 → EReal) (c : Fin 96) : EReal :=
  Ideal.logistic (affine W2 b2 (fun j => max (affine W1 b1 p j) 0) c)

/-- The residual block. -/
def block (W1 : Fin 96 → Fin 96 → EReal) (b1 : Fin 96 → EReal) (W2 : Fin 96 → Fin 96 → EReal) (b2 : Fin 96 → EReal)
    (f : Fin 96 → EReal) (c : Fin 96) : EReal :=
  f c + affine W2 b2 (fun j => max (affine W1 b1 f j) 0) c

theorem count_eq : count = ((96 : ℝ) : EReal) := by
  simp [count, Ideal.ofBits, Ideal.ieee, -EReal.coe_mul]
  norm_num

theorem tiny_pos : 0 < tiny := by
  have h : tiny = ((8796093 * 2 ^ (-43 : ℤ) : ℝ) : EReal) := by
    simp [tiny, Ideal.ofBits, Ideal.ieee, -EReal.coe_mul]
  rw [h]
  exact_mod_cast (by positivity : (0 : ℝ) < 8796093 * 2 ^ (-43 : ℤ))

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem spread_nonneg (f : Fin 96 → EReal) : 0 ≤ spread f := by
  unfold spread
  rw [count_eq]
  unfold Ideal.div
  rw [if_neg (by norm_num)]
  exact mul_nonneg (Finset.sum_nonneg fun c _ => sq_nonneg _) (by
    rw [← EReal.coe_inv]
    exact_mod_cast (by norm_num : (0 : ℝ) ≤ 96⁻¹))

theorem div_sqrt (x r : EReal) (h : 0 < r) : Ideal.div x (Ideal.sqrt r) = x * Ideal.rsqrt r := by
  induction r with
  | bot => simp at h
  | top =>
    show Ideal.div x ⊤ = x * 0
    rw [Ideal.div, if_neg (by simp), EReal.inv_top]
  | coe r =>
    have hr : 0 < r := by exact_mod_cast h
    have hs : ((Real.sqrt r : ℝ) : EReal) ≠ 0 := by
      exact_mod_cast (Real.sqrt_pos.mpr hr).ne'
    have e1 : Ideal.sqrt (r : EReal) = if r < 0 then ⊥ else ((Real.sqrt r : ℝ) : EReal) := rfl
    have e2 : Ideal.rsqrt (r : EReal) = if r < 0 then ⊥ else if r = 0 then ⊤ else (((Real.sqrt r)⁻¹ : ℝ) : EReal) := rfl
    rw [e1, e2, if_neg hr.not_gt, if_neg hr.not_gt, if_neg hr.ne', Ideal.div, if_neg hs, EReal.coe_inv]

/-- Division by the square root is multiplication by the reciprocal square root, whose argument is positive. -/
theorem norm_eq (f g b : Fin 96 → EReal) (c : Fin 96) :
    Ideal.div (f c - mean f) (Ideal.sqrt (spread f + tiny)) * g c + b c = norm f g b c := by
  rw [div_sqrt _ _ (lt_of_lt_of_le tiny_pos (le_add_of_nonneg_left (spread_nonneg f)))]
  rfl

end Cert.Layer
-- ==== Proof.Qkv.lean ====
module

public import proofs.«01_k».proof.Proof.Gen.KernelIdeal.Frame.Region0
public import proofs.«01_k».proof.Proof.Layers
public import Idealize.ShloMosaic.Lib.Pipeline.ValueKit
public import Idealize.ShloMosaic.Lib.Pointwise

/-! What one block of the first call computes: the normalised channels' queries, keys and values. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 : Vec Ideal S1x96x16x128 .f32) (x1 x2 : Vec Ideal S96x1 .f32) (x3 : Vec Ideal S288x96 .bf16) (x4 : Vec Ideal S288x1 .f32)

/-- The queries, keys and values of a pixel of the block, one after another. -/
def qkvOf (j : Fin 288) (r : Fin 16) (w : Fin 128) : EReal :=
  Layer.affine (fun j c => x3 (ix2 j c)) (fun j => x4 (ix2 j 0))
    (Layer.norm (fun c => x0 (ix4 0 c r w)) (fun c => x1 (ix2 c 0)) (fun c => x2 (ix2 c 0))) j

theorem qkv_read (j : Fin 288) (r : Fin 16) (w : Fin 128) :
    k0_pay11 (F := Ideal) x0 x1 x2 x3 x4 (ix3 j r w) = qkvOf x0 x1 x2 x3 x4 j r w := by
  pointwise [k0_pay11, k0_pay2, r0_0, r0_1, r0_2, r0_3, qkvOf, Layer.affine, Layer.norm, Layer.spread, Layer.mean]

theorem out0_5_read (ch : Fin 96) (r : Fin 16) (w : Fin 128) :
    out0_5 (F := Ideal) x0 x1 x2 x3 x4 (ix4 0 ch r w) = qkvOf x0 x1 x2 x3 x4 ⟨0 + ch.val, by omega⟩ r w := by
  unfold out0_5
  rw [View.canon_cons_unit_lit _ _ _ (by decide)]
  pointwise [k0_pay3, qkv_read]

theorem out0_6_read (ch : Fin 96) (r : Fin 16) (w : Fin 128) :
    out0_6 (F := Ideal) x0 x1 x2 x3 x4 (ix4 0 ch r w) = qkvOf x0 x1 x2 x3 x4 ⟨96 + ch.val, by omega⟩ r w := by
  unfold out0_6
  rw [View.canon_cons_unit_lit _ _ _ (by decide)]
  pointwise [k0_pay6, k0_pay4, qkv_read]

theorem out0_7_read (ch : Fin 96) (r : Fin 16) (w : Fin 128) :
    out0_7 (F := Ideal) x0 x1 x2 x3 x4 (ix4 0 ch r w) = qkvOf x0 x1 x2 x3 x4 ⟨192 + ch.val, by omega⟩ r w := by
  unfold out0_7
  rw [View.canon_cons_unit_lit _ _ _ (by decide)]
  pointwise [k0_pay7, k0_pay5, qkv_read]

theorem out0_8_read (ch : Fin 96) (e : Fin 2) (w : Fin 128) :
    out0_8 (F := Ideal) x0 x1 x2 x3 x4 (ix5 0 0 ch e w) = qkvOf x0 x1 x2 x3 x4 ⟨96 + ch.val, by omega⟩ ⟨14 + e.val, by omega⟩ w := by
  unfold out0_8
  rw [View.canon_cons_unit_lit _ _ _ (by decide)]
  pointwise [k0_pay8, k0_pay4, qkv_read]

theorem out0_9_read (ch : Fin 96) (e : Fin 2) (w : Fin 128) :
    out0_9 (F := Ideal) x0 x1 x2 x3 x4 (ix5 0 0 ch e w) = qkvOf x0 x1 x2 x3 x4 ⟨96 + ch.val, by omega⟩ ⟨0 + e.val, by omega⟩ w := by
  unfold out0_9
  rw [View.canon_cons_unit_lit _ _ _ (by decide)]
  pointwise [k0_pay9, k0_pay4, qkv_read]

theorem out0_10_read (ch : Fin 96) (e : Fin 2) (w : Fin 128) :
    out0_10 (F := Ideal) x0 x1 x2 x3 x4 (ix5 0 0 ch e w) = qkvOf x0 x1 x2 x3 x4 ⟨192 + ch.val, by omega⟩ ⟨14 + e.val, by omega⟩ w := by
  unfold out0_10
  rw [View.canon_cons_unit_lit _ _ _ (by decide)]
  pointwise [k0_pay10, k0_pay5, qkv_read]

theorem out0_11_read (ch : Fin 96) (e : Fin 2) (w : Fin 128) :
    out0_11 (F := Ideal) x0 x1 x2 x3 x4 (ix5 0 0 ch e w) = qkvOf x0 x1 x2 x3 x4 ⟨192 + ch.val, by omega⟩ ⟨0 + e.val, by omega⟩ w := by
  unfold out0_11
  rw [View.canon_cons_unit_lit _ _ _ (by decide)]
  pointwise [k0_pay1, k0_pay5, qkv_read]

end Cert.KernelIdeal.Val
-- ==== Proof.Arrays0.lean ====
module

public import proofs.«01_k».proof.Proof.Qkv
public import proofs.«01_k».proof.Proof.Gen.KernelIdeal.Frame.Record0

/-! What the first call leaves in its result arrays, from the arrays it reads: the queries, keys and values of every pixel, and the
    two first and two last rows of every tile's keys and values. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The queries, keys and values of a pixel, one after another. -/
def qkvAll (v : Vec Ideal S4x96x128x128 .f32) (g b : Vec Ideal S96x1 .f32) (k : Vec Ideal S288x96 .bf16) (z : Vec Ideal S288x1 .f32)
    (t : Fin 4) (j : Fin 288) (h w : Fin 128) : EReal :=
  Layer.affine (fun j c => k (ix2 j c)) (fun j => z (ix2 j 0))
    (Layer.norm (fun c => v (ix4 t c h w)) (fun c => g (ix2 c 0)) (fun c => b (ix2 c 0))) j

/-- The blocks of each window of the first call. -/
theorem idx0 : ∀ t : Fin cfg0.N, win0_0.index t = ![t.val / 8, 0, t.val % 8, 0] ∧ win0_1.index t = ![0, 0]
    ∧ win0_2.index t = ![0, 0] ∧ win0_3.index t = ![0, 0] ∧ win0_4.index t = ![0, 0]
    ∧ win0_5.index t = ![t.val / 8, 0, t.val % 8, 0] ∧ win0_6.index t = ![t.val / 8, 0, t.val % 8, 0]
    ∧ win0_7.index t = ![t.val / 8, 0, t.val % 8, 0] ∧ win0_8.index t = ![t.val / 8, t.val % 8, 0, 0, 0]
    ∧ win0_9.index t = ![t.val / 8, t.val % 8, 0, 0, 0] ∧ win0_10.index t = ![t.val / 8, t.val % 8, 0, 0, 0]
    ∧ win0_11.index t = ![t.val / 8, t.val % 8, 0, 0, 0] :=
  (by decide +kernel : ∀ t : Fin grid0.N, _)

/-- The frame of a grid point. -/
def tOf (n : Fin cfg0.N) : Fin 4 := ⟨n.val / 8, by have := n.isLt; change n.val < 32 at this; omega⟩

/-- The row of the image that is row `e` of a grid point's tile. -/
def hOf (n : Fin cfg0.N) (e : Fin 16) : Fin 128 := ⟨n.val % 8 * 16 + e.val, by omega⟩

theorem video_blk (c : Dev nD) (t : Fin cfg0.N) (ch : Fin 96) (e : Fin 16) (w : Fin 128) :
    (iblk0 V c 0 t : Vec Ideal S1x96x16x128 .f32) (ix4 0 ch e w)
      = (V c main_v0 : Vec Ideal S4x96x128x128 .f32) (ix4 (tOf t) ch (hOf t e) w) := by
  blk_ext [iblk0, idx0 t, tOf, hOf]

theorem gain_blk (c : Dev nD) (t : Fin cfg0.N) (ch : Fin 96) :
    (iblk0 V c 1 t : Vec Ideal S96x1 .f32) (ix2 ch 0) = (V c main_v1 : Vec Ideal S96x1 .f32) (ix2 ch 0) := by
  blk_ext [iblk0, idx0 t]

theorem shift_blk (c : Dev nD) (t : Fin cfg0.N) (ch : Fin 96) :
    (iblk0 V c 2 t : Vec Ideal S96x1 .f32) (ix2 ch 0) = (V c main_v2 : Vec Ideal S96x1 .f32) (ix2 ch 0) := by
  blk_ext [iblk0, idx0 t]

theorem matrix_blk (c : Dev nD) (t : Fin cfg0.N) (j : Fin 288) (ch : Fin 96) :
    (iblk0 V c 3 t : Vec Ideal S288x96 .bf16) (ix2 j ch) = (V c main_v13 : Vec Ideal S288x96 .bf16) (ix2 j ch) := by
  blk_ext [iblk0, idx0 t]

theorem offset_blk (c : Dev nD) (t : Fin cfg0.N) (j : Fin 288) :
    (iblk0 V c 4 t : Vec Ideal S288x1 .f32) (ix2 j 0) = (V c main_v5 : Vec Ideal S288x1 .f32) (ix2 j 0) := by
  blk_ext [iblk0, idx0 t]

/-- Channels `o` to `o + 95` of the queries, keys and values of every pixel, of the arrays the first call reads. -/
def qkvV (c : Dev nD) : Fin 4 → Fin 288 → Fin 128 → Fin 128 → EReal :=
  qkvAll (V c main_v0) (V c main_v1) (V c main_v2) (V c main_v13) (V c main_v5)

theorem qkv_blk (c : Dev nD) (t : Fin cfg0.N) (j : Fin 288) (e : Fin 16) (w : Fin 128) :
    qkvOf (iblk0 V c 0 t) (iblk0 V c 1 t) (iblk0 V c 2 t) (iblk0 V c 3 t) (iblk0 V c 4 t) j e w = qkvV V c (tOf t) j (hOf t e) w := by
  unfold qkvOf qkvV qkvAll
  simp only [video_blk, gain_blk, shift_blk, matrix_blk, offset_blk]

/-- Channels `o` to `o + 95`, as an array over the pixels. -/
def pixelsOf (c : Dev nD) (o : ℕ) (ho : o ≤ 192) : Vec Ideal S4x96x128x128 .f32 := fun i =>
  qkvV V c (i 0) ⟨o + (i 1).val, by have := (i 1).isLt; change (i 1).val < 96 at this; omega⟩ (i 2) (i 3)

/-- Channels `o` to `o + 95` of rows `d` and `d + 1` of every tile. -/
def edgeOf (c : Dev nD) (o d : ℕ) (ho : o ≤ 192) (hd : d ≤ 14) : Vec Ideal S4x8x96x2x128 .f32 := fun i =>
  qkvV V c (i 0) ⟨o + (i 2).val, by have := (i 2).isLt; change (i 2).val < 96 at this; omega⟩
    ⟨(i 1).val * 16 + (d + (i 3).val), by
      have h1 := (i 1).isLt; change (i 1).val < 8 at h1
      have h3 := (i 3).isLt; change (i 3).val < 2 at h3
      omega⟩ (i 4)

/-- The tile of a grid point. -/
def tileOf (n : Fin cfg0.N) : Fin 8 := ⟨n.val % 8, by omega⟩

theorem arr0_5 (c : Dev nD) : (dat0 V c).arrAt 5 cfg0.N = pixelsOf V c 0 (by omega) := by
  refine (dat0 V c).arrAt_eq_of_covers 5 _ (by decide +kernel) fun t _ y => ?_
  blk_simp
  rw [after0_5]
  idx_vars y
  obtain rfl : y0 = 0 := Subsingleton.elim _ _
  rw [out0_5_read, qkv_blk]
  show pixelsOf V c 0 (by omega) (ix4 (tOf t) y1 (hOf t y2) y3) = _
  blk_ext [idx0 t, tOf, hOf]

theorem arr0_6 (c : Dev nD) : (dat0 V c).arrAt 6 cfg0.N = pixelsOf V c 96 (by omega) := by
  refine (dat0 V c).arrAt_eq_of_covers 6 _ (by decide +kernel) fun t _ y => ?_
  blk_simp
  rw [after0_6]
  idx_vars y
  obtain rfl : y0 = 0 := Subsingleton.elim _ _
  rw [out0_6_read, qkv_blk]
  show pixelsOf V c 96 (by omega) (ix4 (tOf t) y1 (hOf t y2) y3) = _
  blk_ext [idx0 t, tOf, hOf]

theorem arr0_7 (c : Dev nD) : (dat0 V c).arrAt 7 cfg0.N = pixelsOf V c 192 (by omega) := by
  refine (dat0 V c).arrAt_eq_of_covers 7 _ (by decide +kernel) fun t _ y => ?_
  blk_simp
  rw [after0_7]
  idx_vars y
  obtain rfl : y0 = 0 := Subsingleton.elim _ _
  rw [out0_7_read, qkv_blk]
  show pixelsOf V c 192 (by omega) (ix4 (tOf t) y1 (hOf t y2) y3) = _
  blk_ext [idx0 t, tOf, hOf]

theorem arr0_8 (c : Dev nD) : (dat0 V c).arrAt 8 cfg0.N = edgeOf V c 96 14 (by omega) (by omega) := by
  refine (dat0 V c).arrAt_eq_of_covers 8 _ (by decide +kernel) fun t _ y => ?_
  blk_simp
  rw [after0_8]
  idx_vars y
  obtain rfl : y0 = 0 := Subsingleton.elim _ _
  obtain rfl : y1 = 0 := Subsingleton.elim _ _
  rw [out0_8_read, qkv_blk]
  show edgeOf V c 96 14 (by omega) (by omega) (ix5 (tOf t) (tileOf t) y2 y3 y4) = _
  blk_ext [idx0 t, tOf, tileOf]

theorem arr0_9 (c : Dev nD) : (dat0 V c).arrAt 9 cfg0.N = edgeOf V c 96 0 (by omega) (by omega) := by
  refine (dat0 V c).arrAt_eq_of_covers 9 _ (by decide +kernel) fun t _ y => ?_
  blk_simp
  rw [after0_9]
  idx_vars y
  obtain rfl : y0 = 0 := Subsingleton.elim _ _
  obtain rfl : y1 = 0 := Subsingleton.elim _ _
  rw [out0_9_read, qkv_blk]
  show edgeOf V c 96 0 (by omega) (by omega) (ix5 (tOf t) (tileOf t) y2 y3 y4) = _
  blk_ext [idx0 t, tOf, tileOf]

theorem arr0_10 (c : Dev nD) : (dat0 V c).arrAt 10 cfg0.N = edgeOf V c 192 14 (by omega) (by omega) := by
  refine (dat0 V c).arrAt_eq_of_covers 10 _ (by decide +kernel) fun t _ y => ?_
  blk_simp
  rw [after0_10]
  idx_vars y
  obtain rfl : y0 = 0 := Subsingleton.elim _ _
  obtain rfl : y1 = 0 := Subsingleton.elim _ _
  rw [out0_10_read, qkv_blk]
  show edgeOf V c 192 14 (by omega) (by omega) (ix5 (tOf t) (tileOf t) y2 y3 y4) = _
  blk_ext [idx0 t, tOf, tileOf]

theorem arr0_11 (c : Dev nD) : (dat0 V c).arrAt 11 cfg0.N = edgeOf V c 192 0 (by omega) (by omega) := by
  refine (dat0 V c).arrAt_eq_of_covers 11 _ (by decide +kernel) fun t _ y => ?_
  blk_simp
  rw [after0_11]
  idx_vars y
  obtain rfl : y0 = 0 := Subsingleton.elim _ _
  obtain rfl : y1 = 0 := Subsingleton.elim _ _
  rw [out0_11_read, qkv_blk]
  show edgeOf V c 192 0 (by omega) (by omega) (ix5 (tOf t) (tileOf t) y2 y3 y4) = _
  blk_ext [idx0 t, tOf, tileOf]

end Cert.KernelIdeal.Val
-- ==== Proof.TopK.lean ====
module

public import Idealize.ShloMosaic.Lib.SortFacts
public import Idealize.ShloMosaic.PureOps.Ideal

/-! The sparse softmax over 50 scores, two ways.

    The reference sorts the scores, keeps the ten greatest (equal scores in index order), and scatters their
    exponentials back. The kernel instead strikes out the first greatest score ten times and keeps what was struck
    out. Both give the same weights, whatever the scores are (infinities included). -/

@[expose] public section
noncomputable section

namespace Cert.TopK
open Idealize.ShloMosaic

/-- `a` comes before `b` in the descending order of the scores, equal scores in index order. -/
def Ahead {n : ℕ} (d : Fin n → EReal) (a b : Fin n) : Prop := d b < d a ∨ (d a = d b ∧ a < b)

/-- The comparator: the greater score first. -/
abbrev greater {n : ℕ} (d : Fin n → EReal) (a b : Fin n) : Bool := decide (d b < d a)

theorem insert_ahead {n : ℕ} (d : Fin n → EReal) (a : Fin n) (l : List (Fin n)) (hlt : ∀ b ∈ l, a < b)
    (hl : l.Pairwise (Ahead d)) : (insertBefore (greater d) a l).Pairwise (Ahead d) := by
  induction l with
  | nil => exact List.pairwise_singleton _ _
  | cons b l ih =>
    rw [List.pairwise_cons] at hl
    unfold insertBefore
    by_cases h : d a < d b
    · rw [if_pos (decide_eq_true h)]
      refine List.pairwise_cons.mpr ⟨fun c hc => ?_, ih (fun c hc => hlt c (List.mem_cons_of_mem _ hc)) hl.2⟩
      rcases List.mem_cons.mp ((perm_insertBefore _ a l).mem_iff.mp hc) with rfl | hc'
      · exact Or.inl h
      · exact hl.1 c hc'
    · rw [if_neg (by simpa using h)]
      have hab : Ahead d a b := by
        rcases lt_or_eq_of_le (not_lt.mp h) with h' | h'
        · exact Or.inl h'
        · exact Or.inr ⟨h'.symm, hlt b (List.mem_cons_self ..)⟩
      refine List.pairwise_cons.mpr ⟨fun c hc => ?_, List.pairwise_cons.mpr hl⟩
      rcases List.mem_cons.mp hc with rfl | hc'
      · exact hab
      · have hac := hlt c hc
        rcases hl.1 c hc' with h1 | ⟨h1, _⟩
        · exact Or.inl (lt_of_lt_of_le h1 (not_lt.mp h))
        · rcases lt_or_eq_of_le (not_lt.mp h) with h' | h'
          · exact Or.inl (h1 ▸ h')
          · exact Or.inr ⟨h'.symm.trans h1, hac⟩

theorem sorted_ahead {n : ℕ} (d : Fin n → EReal) (l : List (Fin n)) (hl : l.Pairwise (· < ·)) :
    (stableSort (greater d) l).Pairwise (Ahead d) := by
  induction l with
  | nil => exact List.Pairwise.nil
  | cons a l ih =>
    rw [List.pairwise_cons] at hl
    unfold stableSort
    exact insert_ahead d a _ (fun b hb => hl.1 b ((perm_stableSort _ l).mem_iff.mp hb)) (ih hl.2)

/-- The place of the `i`-th score of the descending order. -/
def order {n : ℕ} (d : Fin n → EReal) : Fin n → Fin n := sortedFrom (greater d)

theorem order_ahead {n : ℕ} (d : Fin n → EReal) (i j : Fin n) (h : i < j) : Ahead d (order d i) (order d j) := by
  have hp : ∀ a b : Fin (sortPositions n (greater d)).length, a < b →
      Ahead d ((sortPositions n (greater d)).get a) ((sortPositions n (greater d)).get b) :=
    List.pairwise_iff_get.mp (sorted_ahead d (List.finRange n) (List.pairwise_lt_finRange n))
  unfold order sortedFrom
  exact hp _ _ h

theorem order_injective {n : ℕ} (d : Fin n → EReal) : Function.Injective (order d) := sortedFrom_injective _
theorem order_surjective {n : ℕ} (d : Fin n → EReal) : Function.Surjective (order d) := sortedFrom_surjective _

/-! ### Striking out the first greatest score -/

/-- `c` is the first place where `r` is greatest. -/
def FirstMax {n : ℕ} (r : Fin n → EReal) (c : Fin n) : Prop := (∀ b, r b ≤ r c) ∧ ∀ b < c, r b < r c

open Classical in
/-- One round: the first greatest entry struck out (set to `⊥`). -/
def strike {n : ℕ} (r : Fin n → EReal) (c : Fin n) : EReal := if FirstMax r c then ⊥ else r c

open Classical in
/-- The scores with the first `i` of the descending order struck out. -/
def struck {n : ℕ} (d : Fin n → EReal) (i : ℕ) (c : Fin n) : EReal := if ∃ j : Fin n, j.val < i ∧ order d j = c then ⊥ else d c

theorem struck_zero {n : ℕ} (d : Fin n → EReal) : struck d 0 = d := by
  funext c; unfold struck; rw [if_neg]; rintro ⟨j, hj, _⟩; exact absurd hj (Nat.not_lt_zero _)

theorem struck_order {n : ℕ} (d : Fin n → EReal) (i : ℕ) (j : Fin n) :
    struck d i (order d j) = if j.val < i then ⊥ else d (order d j) := by
  unfold struck
  by_cases h : j.val < i
  · rw [if_pos h, if_pos ⟨j, h, rfl⟩]
  · rw [if_neg h, if_neg]; rintro ⟨k, hk, e⟩; exact h (order_injective d e ▸ hk)

theorem strike_struck {n : ℕ} (d : Fin n → EReal) (i : Fin n) : strike (struck d i.val) = struck d (i.val + 1) := by
  funext c
  obtain ⟨j, rfl⟩ := order_surjective d c
  have hle : ∀ a b : Fin n, a ≤ b → d (order d b) ≤ d (order d a) := fun a b hab => by
    rcases lt_or_eq_of_le hab with h | h
    · rcases order_ahead d a b h with h' | h'
      · exact h'.le
      · exact h'.1.ge
    · rw [h]
  rw [struck_order d (i.val + 1) j]
  unfold strike
  rw [struck_order d i.val j]
  rcases lt_trichotomy j i with h | h | h
  · have h' : j.val < i.val := h
    rw [if_pos h', if_pos (by omega : j.val < i.val + 1), ite_self]
  · subst h
    rw [if_neg (lt_irrefl _), if_pos (Nat.lt_succ_self _)]
    by_cases hb : d (order d j) = ⊥
    · rw [hb, ite_self]
    · refine if_pos ⟨fun b => ?_, fun b hb' => ?_⟩ <;> obtain ⟨k, rfl⟩ := order_surjective d b <;>
        rw [struck_order, struck_order, if_neg (lt_irrefl j.val)] <;> by_cases hk : k.val < j.val
      · rw [if_pos hk]; exact bot_le
      · rw [if_neg hk]; exact hle j k (not_lt.mp hk)
      · rw [if_pos hk]; exact bot_lt_iff_ne_bot.mpr hb
      · rw [if_neg hk]
        rcases lt_or_eq_of_le (Fin.le_def.mpr (not_lt.mp hk)) with h1 | h1
        · rcases order_ahead d j k h1 with h2 | h2
          · exact h2
          · exact absurd h2.2 (not_lt.mpr hb'.le)
        · rw [h1] at hb'; exact absurd hb' (lt_irrefl _)
  · have h' : i.val < j.val := h
    rw [if_neg (by omega : ¬ j.val < i.val), if_neg (by omega : ¬ j.val < i.val + 1)]
    by_cases hb : d (order d j) = ⊥
    · rw [hb, ite_self]
    · refine if_neg fun hf => ?_
      have h1 := hf.1 (order d i)
      rw [struck_order, struck_order, if_neg (lt_irrefl i.val), if_neg (by omega : ¬ j.val < i.val)] at h1
      rcases order_ahead d i j h with h2 | ⟨h2, h3⟩
      · exact absurd h1 (not_le.mpr h2)
      · have h4 := hf.2 _ h3
        rw [struck_order, struck_order, if_neg (lt_irrefl i.val), if_neg (by omega : ¬ j.val < i.val), h2] at h4
        exact lt_irrefl _ h4

theorem strike_iterate {n : ℕ} (d : Fin n → EReal) (m : ℕ) (hm : m ≤ n) : strike^[m] d = struck d m := by
  induction m with
  | zero => exact (struck_zero d).symm
  | succ m ih => rw [Function.iterate_succ_apply', ih (by omega)]; exact strike_struck d ⟨m, hm⟩

/-! ### The weights -/

/-- The greatest score. -/
def top (d : Fin 50 → EReal) : EReal := Finset.univ.sup d

theorem order_zero_max (d : Fin 50 → EReal) (c : Fin 50) : d c ≤ d (order d 0) := by
  obtain ⟨j, rfl⟩ := order_surjective d c
  rcases eq_or_ne j 0 with h | h
  · rw [h]
  · rcases order_ahead d 0 j (Fin.pos_of_ne_zero h) with h' | h'
    · exact h'.le
    · exact h'.1.ge

theorem top_eq (d : Fin 50 → EReal) : top d = d (order d 0) :=
  le_antisymm (Finset.sup_le fun c _ => order_zero_max d c) (Finset.le_sup (f := d) (Finset.mem_univ _))

/-- The place of the `i`-th kept score. -/
def place (d : Fin 50 → EReal) (i : Fin 10) : Fin 50 := order d (Fin.castLE (by decide) i)

theorem top_eq_kept (d : Fin 50 → EReal) : (Finset.univ.sup fun i : Fin 10 => d (place d i)) = top d := by
  refine le_antisymm (Finset.sup_le fun i _ => Finset.le_sup (f := d) (Finset.mem_univ _)) ?_
  have h : place d 0 = order d 0 := congrArg (order d) (Fin.ext rfl)
  rw [top_eq, ← h]; exact Finset.le_sup (f := fun i : Fin 10 => d (place d i)) (Finset.mem_univ 0)

open Classical in
/-- A candidate's weight before normalising: the exponential of its score if it is kept, zero otherwise. -/
def weight (d : Fin 50 → EReal) (c : Fin 50) : EReal :=
  if strike^[10] d c ≤ ⊥ then Ideal.exp (d c - top d) else 0

/-- A candidate's weight. -/
def share (d : Fin 50 → EReal) (c : Fin 50) : EReal := Ideal.div (weight d c) (∑ b, weight d b)

theorem weight_eq (d : Fin 50 → EReal) (c : Fin 50) :
    weight d c = ∑ i : Fin 10, Ideal.exp (d (place d i) - top d) * (if place d i = c then 1 else 0) := by
  obtain ⟨j, rfl⟩ := order_surjective d c
  unfold weight
  rw [strike_iterate d 10 (by decide), struck_order]
  by_cases h : j.val < 10
  · rw [if_pos h, if_pos le_rfl, Finset.sum_eq_single (⟨j.val, h⟩ : Fin 10)]
    · have : place d ⟨j.val, h⟩ = order d j := rfl
      rw [this, if_pos rfl, mul_one]
    · intro b _ hb
      rw [if_neg, mul_zero]
      intro e
      have h1 : (Fin.castLE (by decide) b : Fin 50) = j := order_injective d e
      exact hb (Fin.ext (show b.val = j.val from congrArg Fin.val h1))
    · exact fun hn => absurd (Finset.mem_univ _) hn
  · rw [if_neg h, Finset.sum_eq_zero]
    · by_cases hb : d (order d j) ≤ ⊥
      · rw [if_pos hb, le_bot_iff.mp hb, sub_eq_add_neg, EReal.bot_add]; rfl
      · rw [if_neg hb]
    · intro b _
      rw [if_neg, mul_zero]
      intro e
      have h1 : (Fin.castLE (by decide) b : Fin 50) = j := order_injective d e
      have h2 : b.val = j.val := congrArg Fin.val h1
      omega

theorem sum_weight (d : Fin 50 → EReal) : ∑ c, weight d c = ∑ i : Fin 10, Ideal.exp (d (place d i) - top d) := by
  simp only [weight_eq]
  rw [Finset.sum_comm]
  refine Finset.sum_congr rfl fun i _ => ?_
  rw [Finset.sum_eq_single (place d i)]
  · rw [if_pos rfl, mul_one]
  · intro b _ hb; rw [if_neg (Ne.symm hb), mul_zero]
  · exact fun hn => absurd (Finset.mem_univ _) hn

/-- The weight by the sort: the kept exponentials scattered to their places, over their sum. -/
theorem share_eq (d : Fin 50 → EReal) (c : Fin 50) :
    share d c = Ideal.div (∑ i : Fin 10, Ideal.exp (d (place d i) - top d) * (if place d i = c then 1 else 0))
      (∑ i : Fin 10, Ideal.exp (d (place d i) - top d)) := by
  rw [← sum_weight, ← weight_eq]; rfl

end Cert.TopK
-- ==== Proof.Strike.lean ====
module

public import proofs.«01_k».proof.Proof.Gen.KernelIdeal.Skeleton
public import proofs.«01_k».proof.Proof.TopK
public import Idealize.ShloMosaic.Lib.Pointwise

/-! The kernel's selection of candidates, on one block of 16 rows of 128 lanes: ten times, the first greatest of a pixel's 50
    scores is struck out. -/

@[expose] public section
set_option maxRecDepth 16384
noncomputable section

namespace Cert.KernelIdeal.Val
open Idealize.ShloMosaic Idealize.ShloMosaic.TcCoe Idealize.SL.Sem
open Cert.KernelIdeal Cert.KernelIdeal.Gen

/-- The place numbers of the candidates. -/
abbrev places : IVec S50x16x128 32 := iota .tc S50x16x128 32 [0] iota_S50x16x128_d0_w32

/-- A pixel's greatest score. -/
def best (v : FVec Ideal S50x16x128 .f32) : FVec Ideal S16x128 .f32 :=
  multiReduction .maximumf [0] S16x128 v 0xFF800000#32 reduces_S50x16x128_S16x128 (.inl rfl) rfl

/-- A pixel's first place of a given greatest score. -/
def first (v : FVec Ideal S50x16x128 .f32) (m : FVec Ideal S16x128 .f32) : IVec S16x128 32 :=
  multiReductionI .minsi [0] S16x128
    (select (cmpf .oeq v (broadcastTo S50x16x128 (shapeCast S1x16x128 m shapeCasts_S16x128_S1x16x128) broadcasts_S1x16x128_S50x16x128))
      places (broadcast S50x16x128 50#32)) 2147483647#32 reduces_S50x16x128_S16x128 rfl

/-- Where a candidate is its pixel's first greatest. -/
def hit (p : IVec S16x128 32) : IVec S50x16x128 1 :=
  cmpi .eq places (broadcastTo S50x16x128 (shapeCast S1x16x128 p shapeCasts_S16x128_S1x16x128) broadcasts_S1x16x128_S50x16x128)

/-- One round on the block. -/
def strikeV (v : FVec Ideal S50x16x128 .f32) : FVec Ideal S50x16x128 .f32 :=
  select (hit (first v (best v))) (broadcast S50x16x128 (Named.named κ "mask" 0xF149F2CA#32)) v

/-- The ten rounds. -/
def strike10 (v : FVec Ideal S50x16x128 .f32) : FVec Ideal S50x16x128 .f32 :=
  strikeV (strikeV (strikeV (strikeV (strikeV (strikeV (strikeV (strikeV (strikeV (strikeV v)))))))))

theorem ofBits_neg_inf : Ideal.ofBits .f32 0xFF800000#32 = ⊥ := by
  simp [Ideal.ofBits, Ideal.ieee]

theorem fold_max_eq_sup {n : ℕ} (f : Fin n → EReal) :
    Finset.fold max (Ideal.ofBits .f32 0xFF800000#32) f Finset.univ = Finset.univ.sup f := by
  rw [ofBits_neg_inf]; rfl

theorem mask_eq : (Named.named (F := Ideal) κ "mask" (φ := .f32) 0xF149F2CA#32 : EReal) = ⊥ := rfl
theorem taken_eq : (Named.named (F := Ideal) κ "taken" (φ := .f32) 0xEFA18F08#32 : EReal) = ⊥ := rfl

/-- A fold of the signed minimum is at most each element, and is the start or one of the elements. -/
theorem fold_minsi {n : ℕ} (b : BitVec 32) (f : Fin n → BitVec 32) (s : Finset (Fin n)) :
    (s.fold IntOp.minsi b f = b ∨ ∃ i ∈ s, s.fold IntOp.minsi b f = f i) ∧
      (s.fold IntOp.minsi b f).toInt ≤ b.toInt ∧ ∀ i ∈ s, (s.fold IntOp.minsi b f).toInt ≤ (f i).toInt := by
  induction s using Finset.induction_on with
  | empty => exact ⟨Or.inl rfl, le_rfl, fun i hi => absurd hi (Finset.notMem_empty i)⟩
  | insert a s ha ih =>
    rw [Finset.fold_insert ha]
    obtain ⟨h1, h2, h3⟩ := ih
    have hc : IntOp.minsi (f a) (s.fold IntOp.minsi b f) = if (f a).toInt < (s.fold IntOp.minsi b f).toInt then f a else s.fold IntOp.minsi b f := by
      unfold IntOp.minsi; simp only [BitVec.slt_iff_toInt_lt]
    rw [hc]
    by_cases h : (f a).toInt < (s.fold IntOp.minsi b f).toInt
    · rw [if_pos h]
      refine ⟨Or.inr ⟨a, Finset.mem_insert_self a s, rfl⟩, h.le.trans h2, fun i hi => ?_⟩
      rcases Finset.mem_insert.mp hi with rfl | hi
      · exact le_rfl
      · exact h.le.trans (h3 i hi)
    · rw [if_neg h]
      refine ⟨?_, h2, fun i hi => ?_⟩
      · rcases h1 with h1 | ⟨i, hi, e⟩
        · exact Or.inl h1
        · exact Or.inr ⟨i, Finset.mem_insert_of_mem hi, e⟩
      · rcases Finset.mem_insert.mp hi with rfl | hi
        · exact not_lt.mp h
        · exact h3 i hi

theorem toInt_place (c : Fin 50) : (BitVec.ofNat 32 c.val).toInt = c.val := by
  revert c; decide

/-- The least place number of a greatest score is the first greatest's. -/
theorem first_iff (f : Fin 50 → EReal) (c : Fin 50) :
    BitVec.ofNat 32 c.val = Finset.univ.fold IntOp.minsi 2147483647#32
      (fun k : Fin 50 => if f k = Finset.univ.sup f then BitVec.ofNat 32 k.val else 50#32) ↔ TopK.FirstMax f c := by
  obtain ⟨k0, -, hk0⟩ := Finset.exists_mem_eq_sup Finset.univ (Finset.univ_nonempty (α := Fin 50)) f
  have hle : ∀ b, f b ≤ Finset.univ.sup f := fun b => Finset.le_sup (Finset.mem_univ b)
  obtain ⟨h1, h2, h3⟩ := fold_minsi 2147483647#32
    (fun k : Fin 50 => if f k = Finset.univ.sup f then BitVec.ofNat 32 k.val else 50#32) Finset.univ
  generalize Finset.univ.fold IntOp.minsi 2147483647#32
    (fun k : Fin 50 => if f k = Finset.univ.sup f then BitVec.ofNat 32 k.val else 50#32) = m at h1 h2 h3 ⊢
  have h4 := h3 k0 (Finset.mem_univ _)
  simp only [← hk0, if_true, toInt_place] at h4
  have hm : ∃ k : Fin 50, f k = Finset.univ.sup f ∧ m = BitVec.ofNat 32 k.val := by
    rcases h1 with h1 | ⟨k, -, h1⟩
    · rw [h1] at h4; have := k0.isLt; exact absurd h4 (by have : (2147483647#32).toInt = 2147483647 := by decide
                                                          omega)
    · by_cases hk : f k = Finset.univ.sup f
      · exact ⟨k, hk, by rw [h1, if_pos hk]⟩
      · rw [h1, if_neg hk] at h4; have := k0.isLt; exact absurd h4 (by have : (50#32).toInt = 50 := by decide
                                                                       omega)
  obtain ⟨k, hk, rfl⟩ := hm
  have hmin : ∀ b, f b = Finset.univ.sup f → k ≤ b := fun b hb => by
    have h5 := h3 b (Finset.mem_univ _)
    simp only [hb, if_true, toInt_place] at h5
    exact Fin.le_def.mpr (by omega)
  constructor
  · intro e
    have hck : c = k := Fin.ext (by have := congrArg BitVec.toInt e; rw [toInt_place, toInt_place] at this; omega)
    subst hck
    refine ⟨fun b => hk ▸ hle b, fun b hb => lt_of_le_of_ne (hk ▸ hle b) fun e => ?_⟩
    exact absurd (hmin b (e.trans hk)) (not_le.mpr hb)
  · rintro ⟨hc1, hc2⟩
    have hc : f c = Finset.univ.sup f := le_antisymm (hle c) (hk ▸ hc1 k)
    rcases lt_or_eq_of_le (hmin c hc) with h | h
    · exact absurd (hk.trans hc.symm) (hc2 k h).ne
    · rw [h]

theorem strikeV_read (v : FVec Ideal S50x16x128 .f32) (c : Fin 50) (r : Fin 16) (w : Fin 128) :
    strikeV v (ix3 c r w) = TopK.strike (fun k => v (ix3 k r w)) c := by
  pointwise [strikeV, hit, first, best]
  rw [fold_max_eq_sup, mask_eq]
  unfold TopK.strike
  by_cases h : TopK.FirstMax (fun k => v (ix3 k r w)) c
  · rw [if_pos h, ← (first_iff (fun k => v (ix3 k r w)) c).mpr h]
    simp [IntOp.cmpi, Scalar.select]
  · rw [if_neg h]
    have h' := mt (first_iff (fun k => v (ix3 k r w)) c).mp h
    simp only [IntOp.cmpi, Scalar.select, beq_eq_false_iff_ne.mpr h']
    rfl

theorem strike10_read (v : FVec Ideal S50x16x128 .f32) (c : Fin 50) (r : Fin 16) (w : Fin 128) :
    strike10 v (ix3 c r w) = TopK.strike^[10] (fun k => v (ix3 k r w)) c := by
  have h : ∀ u : FVec Ideal S50x16x128 .f32, (fun k => strikeV u (ix3 k r w)) = TopK.strike (fun k => u (ix3 k r w)) :=
    fun u => funext fun k => strikeV_read u k r w
  unfold strike10
  rw [strikeV_read, h, h, h, h, h, h, h, h, h]
  rfl

end Cert.KernelIdeal.Val
-- ==== Proof.Attend.lean ====
module

public import proofs.«01_k».proof.Proof.Gen.KernelIdeal.Frame.Region1
public import proofs.«01_k».proof.Proof.Strike

/-! What one block of the attention call computes: the scores of a pixel's 50 candidates, their weights, the weighted sum of the
    candidates' values, its projection, and the projection's sum over the block. -/

@[expose] public section
set_option maxRecDepth 16384
noncomputable section

namespace Cert.KernelIdeal.Val
open Idealize.ShloMosaic Idealize.ShloMosaic.TcCoe Idealize.SL.Sem
open Cert.KernelIdeal Cert.KernelIdeal.Gen

/-- Twenty rows around a block: two of the tile above, the tile's sixteen, two of the tile below. -/
def window (l : FVec Ideal S1x1x96x2x128 .bf16) (c : FVec Ideal S1x96x16x128 .bf16) (f : FVec Ideal S1x1x96x2x128 .bf16)
    (ch : Fin 96) (m : Fin 20) (w : Fin 128) : EReal :=
  if h : m.val < 2 then l (ix5 0 0 ch ⟨m.val, h⟩ w)
  else if h' : m.val - 2 < 16 then c (ix4 0 ch ⟨m.val - 2, h'⟩ w)
  else f (ix5 0 0 ch ⟨m.val - 2 - 16, by omega⟩ w)

/-- The window's row a candidate of row `r` reads. -/
def rowOf (n : Fin 50) (r : Fin 16) : Fin 20 := ⟨r.val + 4 - n.val % 25 / 5, by omega⟩
/-- The lane a candidate of lane `w` reads. -/
def laneOf (n : Fin 50) (w : Fin 128) : Fin 128 := ⟨(w.val + 130 - n.val % 5) % 128, Nat.mod_lt _ (by decide)⟩

/-- A query, scaled by 96^(-1/2). -/
def scaled (q : FVec Ideal S1x96x16x128 .bf16) (ch : Fin 96) (r : Fin 16) (w : Fin 128) : EReal :=
  HMul.hMul (α := EReal) (q (ix4 0 ch r w)) (Ideal.ofBits .f32 0x3DD105EC#32)

variable (x0 : FVec Ideal S1x96x16x128 .bf16) (x1 : FVec Ideal S1x96x16x128 .bf16) (x2 x3 : FVec Ideal S1x1x96x2x128 .bf16)
  (x4 : FVec Ideal S1x96x16x128 .bf16) (x5 x6 : FVec Ideal S1x1x96x2x128 .bf16)
  (x7 : FVec Ideal S1x96x16x128 .bf16) (x8 x9 : FVec Ideal S1x1x96x2x128 .bf16)
  (x10 : FVec Ideal S1x96x16x128 .bf16) (x11 x12 : FVec Ideal S1x1x96x2x128 .bf16)
  (x13 : FVec Ideal S96x96 .bf16) (x14 : FVec Ideal S96x1 .f32)

theorem query_read (ch : Fin 96) (r : Fin 16) (w : Fin 128) :
    k1_pay111 (F := Ideal) x0 x1 x2 x3 x4 x5 x6 x7 x8 x9 x10 x11 x12 x13 x14 (ix3 ch r w) = scaled x0 ch r w := by
  pointwise [k1_pay111, k1_pay4, r1_0, scaled]

theorem keys0_read (ch : Fin 96) (m : Fin 20) (w : Fin 128) :
    k1_pay112 (F := Ideal) x0 x1 x2 x3 x4 x5 x6 x7 x8 x9 x10 x11 x12 x13 x14 (ix3 ch m w) = window x2 x1 x3 ch m w := by
  pointwise [k1_pay112, k1_pay5, r1_0, r1_1, window]

theorem keys1_read (ch : Fin 96) (m : Fin 20) (w : Fin 128) :
    k1_pay113 (F := Ideal) x0 x1 x2 x3 x4 x5 x6 x7 x8 x9 x10 x11 x12 x13 x14 (ix3 ch m w) = window x5 x4 x6 ch m w := by
  pointwise [k1_pay113, k1_pay6, r1_0, r1_1, window]

/-- A score's sum, once its row and lane are known to be the candidate's. -/
theorem score_congr (n : Fin 50) (r : Fin 16) (w : Fin 128) (W : Fin 96 → Fin 20 → Fin 128 → EReal) (m : Fin 20) (l : Fin 128)
    (hm : m.val = r.val + 4 - n.val % 25 / 5) (hl : l.val = (w.val + 130 - n.val % 5) % 128) :
    ∑ ch, scaled x0 ch r w * W ch m l = ∑ ch, scaled x0 ch r w * W ch (rowOf n r) (laneOf n w) := by
  rw [show m = rowOf n r from Fin.ext hm, show l = laneOf n w from Fin.ext hl]

set_option maxHeartbeats 2000000 in
/-- The scores: the scaled query against the key of each candidate's pixel. -/
theorem scores_read (n : Fin 50) (r : Fin 16) (w : Fin 128) :
    k1_pay181 (F := Ideal) x0 x1 x2 x3 x4 x5 x6 x7 x8 x9 x10 x11 x12 x13 x14 (ix3 n r w)
      = ∑ ch : Fin 96, scaled x0 ch r w
          * (if n.val < 25 then window x2 x1 x3 else window x5 x4 x6) ch (rowOf n r) (laneOf n w) := by
  unfold k1_pay181
  pointwise [k1_pay89]
  fin_vals n with hk
  all_goals simp only [hk, Nat.reduceSub, Nat.reduceLT, dite_true, dite_false, if_true, if_false]
  all_goals pointwise [k1_pay9, k1_pay10, k1_pay11, k1_pay12, k1_pay13, k1_pay14, k1_pay15, k1_pay16, k1_pay17, k1_pay18, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay114, k1_pay115, k1_pay116, k1_pay117, k1_pay118, k1_pay119, k1_pay120, k1_pay121, k1_pay122, k1_pay123, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, k1_pay149, k1_pay150, k1_pay151, k1_pay152, k1_pay153, k1_pay154, k1_pay155, k1_pay156, k1_pay157, k1_pay158, k1_pay159, k1_pay160, k1_pay161, k1_pay162, k1_pay163, k1_pay164, k1_pay165, k1_pay166, k1_pay167, k1_pay168, k1_pay169, k1_pay170, k1_pay171, k1_pay172, k1_pay173, k1_pay174, k1_pay175, k1_pay176, k1_pay177, k1_pay178, k1_pay179, query_read, keys0_read, keys1_read]
  all_goals exact score_congr x0 n r w _ _ _ (by simp only [hk]; omega) (by simp only [hk]; omega)

end Cert.KernelIdeal.Val
-- ==== Proof.Weights.lean ====
module

public import proofs.«01_k».proof.Proof.Gen.KernelIdeal.Frame.Region1
public import proofs.«01_k».proof.Proof.Strike

/-! The weights of the attention call: the kernel's selection and softmax over a pixel's 50 candidates, as the softmax over the ten
    kept ones. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 : FVec Ideal S1x96x16x128 .bf16) (x1 : FVec Ideal S1x96x16x128 .bf16) (x2 x3 : FVec Ideal S1x1x96x2x128 .bf16)
  (x4 : FVec Ideal S1x96x16x128 .bf16) (x5 x6 : FVec Ideal S1x1x96x2x128 .bf16)
  (x7 : FVec Ideal S1x96x16x128 .bf16) (x8 x9 : FVec Ideal S1x1x96x2x128 .bf16)
  (x10 : FVec Ideal S1x96x16x128 .bf16) (x11 x12 : FVec Ideal S1x1x96x2x128 .bf16)
  (x13 : FVec Ideal S96x96 .bf16) (x14 : FVec Ideal S96x1 .f32)

/-- The weights before they are divided by their sum. -/
def raised (v : FVec Ideal S50x16x128 .f32) : FVec Ideal S50x16x128 .f32 :=
  select (cmpf .ole (strike10 v) (broadcast S50x16x128 (Named.named κ "taken" 0xEFA18F08#32)))
    (exp (subf v (broadcastTo S50x16x128 (shapeCast S1x16x128 (best v) shapeCasts_S16x128_S1x16x128) broadcasts_S1x16x128_S50x16x128)))
    (broadcast S50x16x128 (Scalar.ofBits .f32 0x00000000#32))

/-- The weights. -/
def weigh (v : FVec Ideal S50x16x128 .f32) : FVec Ideal S50x16x128 .f32 :=
  divf (raised v) (broadcastTo S50x16x128 (shapeCast S1x16x128
    (multiReduction .add [0] S16x128 (raised v) 0x00000000#32 reduces_S50x16x128_S16x128 (.inl rfl) rfl)
    shapeCasts_S16x128_S1x16x128) broadcasts_S1x16x128_S50x16x128)

theorem weigh_eq :
    k1_pay189 (F := Ideal) x0 x1 x2 x3 x4 x5 x6 x7 x8 x9 x10 x11 x12 x13 x14 = weigh (k1_pay181 (F := Ideal) x0 x1 x2 x3 x4 x5 x6 x7 x8 x9 x10 x11 x12 x13 x14) := rfl

theorem raised_read (v : FVec Ideal S50x16x128 .f32) (c : Fin 50) (r : Fin 16) (w : Fin 128) :
    raised v (ix3 c r w) = TopK.weight (fun k => v (ix3 k r w)) c := by
  pointwise [raised, best, strike10_read, TopK.weight, TopK.top]
  rw [fold_max_eq_sup, taken_eq]

theorem weigh_read (v : FVec Ideal S50x16x128 .f32) (c : Fin 50) (r : Fin 16) (w : Fin 128) :
    weigh v (ix3 c r w) = TopK.share (fun k => v (ix3 k r w)) c := by
  pointwise [weigh, raised_read, TopK.share]

end Cert.KernelIdeal.Val
-- ==== Proof.Aggregate.lean ====
module

public import proofs.«01_k».proof.Proof.Attend
public import proofs.«01_k».proof.Proof.Weights
public import Idealize.ShloMosaic.Lib.Pipeline.ValueKit

/-! The weighted sum of the candidates' values, as the attention call computes it on a block. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 : FVec Ideal S1x96x16x128 .bf16) (x1 : FVec Ideal S1x96x16x128 .bf16) (x2 x3 : FVec Ideal S1x1x96x2x128 .bf16)
  (x4 : FVec Ideal S1x96x16x128 .bf16) (x5 x6 : FVec Ideal S1x1x96x2x128 .bf16)
  (x7 : FVec Ideal S1x96x16x128 .bf16) (x8 x9 : FVec Ideal S1x1x96x2x128 .bf16)
  (x10 : FVec Ideal S1x96x16x128 .bf16) (x11 x12 : FVec Ideal S1x1x96x2x128 .bf16)
  (x13 : FVec Ideal S96x96 .bf16) (x14 : FVec Ideal S96x1 .f32)

theorem sum50 (f : Fin 50 → EReal) : ∑ n, f n =
      ((((((((((((((((((((((((((((((((((((((((((((((((f 0 + f 1) + f 2) + f 3) + f 4) + f 5) + f 6) + f 7) + f 8) + f 9) + f
      10) + f 11) + f 12) + f 13) + f 14) + f 15) + f 16) + f 17) + f 18) + f 19) + f 20) + f 21) + f 22) + f 23) + f 24) + f
      25) + f 26) + f 27) + f 28) + f 29) + f 30) + f 31) + f 32) + f 33) + f 34) + f 35) + f 36) + f 37) + f 38) + f 39) + f
      40) + f 41) + f 42) + f 43) + f 44) + f 45) + f 46) + f 47) + f 48) + f 49 := by
  simp only [Fin.sum_univ_castSucc, Finset.univ_eq_empty, Finset.sum_empty, zero_add]
  rfl

theorem load4 (x : Vec Ideal S1x96x16x128 .bf16) : View.ld x r1_0 = x :=
  View.ld_unit_lit _ _ (by decide)

theorem load5 (x : Vec Ideal S1x1x96x2x128 .bf16) : View.ld x r1_1 = x :=
  View.ld_unit_lit _ _ (by decide)

theorem values0_read (l : FVec Ideal S1x1x96x2x128 .bf16) (c : FVec Ideal S1x96x16x128 .bf16) (f : FVec Ideal S1x1x96x2x128 .bf16)
    (ch : Fin 96) (m : Fin 20) (w : Fin 128) : k1_pay7 (F := Ideal) l c f (ix3 ch m w) = window l c f ch m w := by
  pointwise [k1_pay7, window]

theorem values1_read (l : FVec Ideal S1x1x96x2x128 .bf16) (c : FVec Ideal S1x96x16x128 .bf16) (f : FVec Ideal S1x1x96x2x128 .bf16)
    (ch : Fin 96) (m : Fin 20) (w : Fin 128) : k1_pay8 (F := Ideal) l c f (ix3 ch m w) = window l c f ch m w := by
  pointwise [k1_pay8, window]

/-- One candidate's part of the weighted sum. -/
def part (g : FVec Ideal S50x16x128 .f32) (W0 W1 : Fin 96 → Fin 20 → Fin 128 → EReal) (ch : Fin 96) (r : Fin 16) (w : Fin 128)
    (n : Fin 50) : EReal :=
  HMul.hMul (α := EReal) (g (ix3 n r w)) ((if n.val < 25 then W0 else W1) ch (rowOf n r) (laneOf n w))

theorem part_lo (g : FVec Ideal S50x16x128 .f32) (W0 W1 : Fin 96 → Fin 20 → Fin 128 → EReal) (ch : Fin 96) (r : Fin 16) (w : Fin 128)
    (n : Fin 50) (m : Fin 20) (l : Fin 128) (h : n.val < 25)
    (hm : m.val = r.val + 4 - n.val % 25 / 5) (hl : l.val = (w.val + 130 - n.val % 5) % 128) :
    HMul.hMul (α := EReal) (g (ix3 n r w)) (W0 ch m l) = part g W0 W1 ch r w n := by
  rw [part, if_pos h, show m = rowOf n r from Fin.ext hm, show l = laneOf n w from Fin.ext hl]

theorem part_hi (g : FVec Ideal S50x16x128 .f32) (W0 W1 : Fin 96 → Fin 20 → Fin 128 → EReal) (ch : Fin 96) (r : Fin 16) (w : Fin 128)
    (n : Fin 50) (m : Fin 20) (l : Fin 128) (h : ¬ n.val < 25)
    (hm : m.val = r.val + 4 - n.val % 25 / 5) (hl : l.val = (w.val + 130 - n.val % 5) % 128) :
    HMul.hMul (α := EReal) (g (ix3 n r w)) (W1 ch m l) = part g W0 W1 ch r w n := by
  rw [part, if_neg h, show m = rowOf n r from Fin.ext hm, show l = laneOf n w from Fin.ext hl]

set_option maxHeartbeats 1000000 in
theorem sum_read (ch : Fin 96) (r : Fin 16) (w : Fin 128) :
    k1_pay191 (F := Ideal) x0 x1 x2 x3 x4 x5 x6 x7 x8 x9 x10 x11 x12 x13 x14 (ix3 ch r w)
      = ∑ n, part (k1_pay189 (F := Ideal) x0 x1 x2 x3 x4 x5 x6 x7 x8 x9 x10 x11 x12 x13 x14) (window x8 x7 x9) (window x11 x10 x12) ch r w n := by
  unfold k1_pay191 k1_pay98 k1_pay100 k1_pay189 k1_pay124 k1_pay125 k1_pay126 k1_pay127 k1_pay128 k1_pay129
  generalize k1_pay97 (F := Ideal) (k1_pay181 (F := Ideal) x0 x1 x2 x3 x4 x5 x6 x7 x8 x9 x10 x11 x12 x13 x14)
    (k1_pay180 (F := Ideal) x0 x1 x2 x3 x4 x5 x6 x7 x8 x9 x10 x11 x12 x13 x14)
    (k1_pay182 (F := Ideal) x0 x1 x2 x3 x4 x5 x6 x7 x8 x9 x10 x11 x12 x13 x14)
    (k1_pay187 (F := Ideal) x0 x1 x2 x3 x4 x5 x6 x7 x8 x9 x10 x11 x12 x13 x14)
    (k1_pay188 (F := Ideal) x0 x1 x2 x3 x4 x5 x6 x7 x8 x9 x10 x11 x12 x13 x14) = g
  rw [load4, load4, load5, load5, load5, load5]
  pointwise [k1_pay19, k1_pay20, k1_pay21, k1_pay22, k1_pay23, k1_pay24, k1_pay25, k1_pay26, k1_pay27, k1_pay28, k1_pay99, k1_pay101, k1_pay102, k1_pay103, k1_pay104, k1_pay105, k1_pay106, k1_pay107, k1_pay108, k1_pay110, values0_read, values1_read]
  rw [sum50]
  repeat' refine congrArg₂ (HAdd.hAdd (α := EReal) (β := EReal)) ?_ ?_
  all_goals first
    | exact part_lo g _ _ ch r w _ _ _ (by decide) (by simp <;> omega) (by simp <;> omega)
    | exact part_hi g _ _ ch r w _ _ _ (by decide) (by simp <;> omega) (by simp <;> omega)
    | skip

end Cert.KernelIdeal.Val
-- ==== Proof.Sums.lean ====
module

public import Idealize.ShloMosaic.Lib.SortFacts
public import Idealize.ShloMosaic.PureOps.Ideal

/-! Sums over pixels, cut into rows and tiles. -/

@[expose] public section
noncomputable section

namespace Cert

/-- A sum over a block's 2048 pixels, row by row. -/
theorem sum_pixels (f : Fin 16 → Fin 128 → EReal) :
    ∑ x : Fin 2048, f ⟨x.val / 128, by omega⟩ ⟨x.val % 128, by omega⟩ = ∑ r, ∑ w, f r w := by
  rw [← Fintype.sum_prod_type']
  exact Equiv.sum_comp (finProdFinEquiv (m := 16) (n := 128)).symm fun p => f p.1 p.2

end Cert
-- ==== Proof.Project.lean ====
module

public import proofs.«01_k».proof.Proof.Aggregate
public import proofs.«01_k».proof.Proof.Sums

/-! The attention call's two results on a block: the projected sums, and the projected sums added up over the block. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 : FVec Ideal S1x96x16x128 .bf16) (x1 : FVec Ideal S1x96x16x128 .bf16) (x2 x3 : FVec Ideal S1x1x96x2x128 .bf16)
  (x4 : FVec Ideal S1x96x16x128 .bf16) (x5 x6 : FVec Ideal S1x1x96x2x128 .bf16)
  (x7 : FVec Ideal S1x96x16x128 .bf16) (x8 x9 : FVec Ideal S1x1x96x2x128 .bf16)
  (x10 : FVec Ideal S1x96x16x128 .bf16) (x11 x12 : FVec Ideal S1x1x96x2x128 .bf16)
  (x13 : FVec Ideal S96x96 .bf16) (x14 : FVec Ideal S96x1 .f32)

/-- A candidate's score at a pixel of the block. -/
def score (r : Fin 16) (w : Fin 128) (n : Fin 50) : EReal :=
  ∑ ch : Fin 96, scaled x0 ch r w * (if n.val < 25 then window x2 x1 x3 else window x5 x4 x6) ch (rowOf n r) (laneOf n w)

/-- The weighted sum of the candidates' values at a pixel of the block. -/
def attended (ch : Fin 96) (r : Fin 16) (w : Fin 128) : EReal :=
  ∑ n, TopK.share (score x0 x1 x2 x3 x4 x5 x6 r w) n
    * (if n.val < 25 then window x8 x7 x9 else window x11 x10 x12) ch (rowOf n r) (laneOf n w)

/-- Its projection. -/
def projected (o : Fin 96) (r : Fin 16) (w : Fin 128) : EReal :=
  HAdd.hAdd (α := EReal) (β := EReal)
    (∑ ch : Fin 96, HMul.hMul (α := EReal) (x13 (ix2 o ch)) (attended x0 x1 x2 x3 x4 x5 x6 x7 x8 x9 x10 x11 x12 ch r w))
    (x14 (ix2 o 0))

theorem attended_read (ch : Fin 96) (r : Fin 16) (w : Fin 128) :
    k1_pay191 (F := Ideal) x0 x1 x2 x3 x4 x5 x6 x7 x8 x9 x10 x11 x12 x13 x14 (ix3 ch r w) = attended x0 x1 x2 x3 x4 x5 x6 x7 x8 x9 x10 x11 x12 ch r w := by
  rw [sum_read, weigh_eq]
  unfold attended part
  refine Finset.sum_congr rfl fun n _ => ?_
  rw [weigh_read]
  refine congrArg (fun d => TopK.share d n * _) (funext fun k => ?_)
  exact scores_read x0 x1 x2 x3 x4 x5 x6 x7 x8 x9 x10 x11 x12 x13 x14 k r w

theorem out_read (o : Fin 96) (r : Fin 16) (w : Fin 128) :
    out1_15 (F := Ideal) x0 x1 x2 x3 x4 x5 x6 x7 x8 x9 x10 x11 x12 x13 x14 (ix4 0 o r w) = projected x0 x1 x2 x3 x4 x5 x6 x7 x8 x9 x10 x11 x12 x13 x14 o r w := by
  unfold out1_15
  rw [View.canon_cons_unit_lit _ _ _ (by decide)]
  pointwise [k1_pay2, k1_pay1, k1_pay190, k1_pay109, r1_2, r1_3, projected]
  simp only [attended_read]
  try rfl

theorem pool_read (o : Fin 96) :
    out1_16 (F := Ideal) x0 x1 x2 x3 x4 x5 x6 x7 x8 x9 x10 x11 x12 x13 x14 (ix4 0 0 o 0) = ∑ r, ∑ w, projected x0 x1 x2 x3 x4 x5 x6 x7 x8 x9 x10 x11 x12 x13 x14 o r w := by
  unfold out1_16
  rw [View.canon_cons_unit_lit _ _ _ (by decide)]
  pointwise [k1_pay3, k1_pay1, k1_pay190, k1_pay109, r1_2, r1_3, projected]
  simp only [attended_read]
  exact sum_pixels fun r w => projected x0 x1 x2 x3 x4 x5 x6 x7 x8 x9 x10 x11 x12 x13 x14 o r w

end Cert.KernelIdeal.Val
-- ==== Proof.Whole.lean ====
module

public import proofs.«01_k».proof.Proof.TopK
public import proofs.«01_k».proof.Proof.Layers

/-! The whole computation as functions of a frame, a channel, a row and a lane: what both programs are shown to compute. -/

@[expose] public section
noncomputable section

namespace Cert.Whole
open Idealize.ShloMosaic

/-- An array over frames, channels, rows and lanes. -/
abbrev Img (n : ℕ) := Fin 4 → Fin n → Fin 128 → Fin 128 → EReal

/-- The frame a candidate of frame `t` lies in. -/
def frameAt (n : Fin 50) (t : Fin 4) : Fin 4 := ⟨(t.val + 4 - n.val / 25) % 4, Nat.mod_lt _ (by decide)⟩
/-- The row a candidate of row `h` lies in. -/
def rowAt (n : Fin 50) (h : Fin 128) : Fin 128 := ⟨(h.val + 130 - n.val % 25 / 5) % 128, Nat.mod_lt _ (by decide)⟩
/-- The lane a candidate of lane `w` lies in. -/
def laneAt (n : Fin 50) (w : Fin 128) : Fin 128 := ⟨(w.val + 130 - n.val % 5) % 128, Nat.mod_lt _ (by decide)⟩

/-- The scale of the scores, 96^(-1/2). -/
abbrev unitScale : EReal := Ideal.ofBits .f32 0x3DD105EC#32

/-- The queries, keys and values. -/
def qkv (X : Img 96) (g b : Fin 96 → EReal) (W : Fin 288 → Fin 96 → EReal) (z : Fin 288 → EReal) : Img 288 := fun t j h w =>
  Layer.affine W z (Layer.norm (fun c => X t c h w) g b) j

/-- A candidate's score at a pixel. -/
def score (Q K : Img 96) (t : Fin 4) (h w : Fin 128) (n : Fin 50) : EReal :=
  ∑ ch, Q t ch h w * unitScale * K (frameAt n t) ch (rowAt n h) (laneAt n w)

/-- The weighted sum of the candidates' values. -/
def attend (Q K V : Img 96) : Img 96 := fun t ch h w =>
  ∑ n, TopK.share (score Q K t h w) n * V (frameAt n t) ch (rowAt n h) (laneAt n w)

/-- One affine map of the channels of each pixel. -/
def pixelwise (W : Fin 96 → Fin 96 → EReal) (b : Fin 96 → EReal) (X : Img 96) : Img 96 := fun t o h w =>
  Layer.affine W b (fun ch => X t ch h w) o

/-- A tile's sum. -/
def tileSum (X : Img 96) (t : Fin 4) (i : Fin 8) (k : Fin 96) : EReal :=
  ∑ r : Fin 16, ∑ w : Fin 128, X t k ⟨i.val * 16 + r.val, by omega⟩ w

/-- A channel's average over the image. -/
def average (X : Img 96) (t : Fin 4) (k : Fin 96) : EReal :=
  (∑ i : Fin 8, tileSum X t i k) * Ideal.ofBits .f32 0x38800000#32

/-- The channel gate of an image. -/
def gate (W1 : Fin 12 → Fin 96 → EReal) (b1 : Fin 12 → EReal) (W2 : Fin 96 → Fin 12 → EReal) (b2 : Fin 96 → EReal) (X : Img 96)
    (t : Fin 4) (c : Fin 96) : EReal := Layer.gate W1 b1 W2 b2 (average X t) c

/-- An image times its channel gate. -/
def gated (W1 : Fin 12 → Fin 96 → EReal) (b1 : Fin 12 → EReal) (W2 : Fin 96 → Fin 12 → EReal) (b2 : Fin 96 → EReal) (X : Img 96) :
    Img 96 := fun t c h w => X t c h w * gate W1 b1 W2 b2 X t c

/-- The residual block of the normalised channels of each pixel. -/
def residual (g b : Fin 96 → EReal) (W1 : Fin 96 → Fin 96 → EReal) (b1 : Fin 96 → EReal) (W2 : Fin 96 → Fin 96 → EReal)
    (b2 : Fin 96 → EReal) (X : Img 96) : Img 96 := fun t c h w =>
  Layer.block W1 b1 W2 b2 (Layer.norm (fun k => X t k h w) g b) c

/-- The arguments both programs take. -/
structure Args where
  (x : Img 96) (g1 b1 g2 b2 : Fin 96 → EReal)
  (wqkv : Fin 288 → Fin 96 → EReal) (bqkv : Fin 288 → EReal)
  (wproj : Fin 96 → Fin 96 → EReal) (bproj : Fin 96 → EReal)
  (u1 : Fin 12 → Fin 96 → EReal) (c1 : Fin 12 → EReal) (u2 : Fin 96 → Fin 12 → EReal) (c2 : Fin 96 → EReal)
  (wr1 : Fin 96 → Fin 96 → EReal) (br1 : Fin 96 → EReal) (wr2 : Fin 96 → Fin 96 → EReal) (br2 : Fin 96 → EReal)
  (u3 : Fin 12 → Fin 96 → EReal) (c3 : Fin 12 → EReal) (u4 : Fin 96 → Fin 12 → EReal) (c4 : Fin 96 → EReal)

namespace Args
variable (A : Args)

/-- Queries, keys and values of the normalised video. -/
def all : Img 288 := qkv A.x A.g1 A.b1 A.wqkv A.bqkv
/-- The queries. -/
def queries : Img 96 := fun t ch h w => A.all t ⟨0 + ch.val, by omega⟩ h w
/-- The keys. -/
def keys : Img 96 := fun t ch h w => A.all t ⟨96 + ch.val, by omega⟩ h w
/-- The values. -/
def values : Img 96 := fun t ch h w => A.all t ⟨192 + ch.val, by omega⟩ h w
/-- The projected weighted sums. -/
def projected : Img 96 := pixelwise A.wproj A.bproj (attend A.queries A.keys A.values)
/-- The video plus those, gated. -/
def joined : Img 96 := fun t k h w => A.x t k h w + gated A.u1 A.c1 A.u2 A.c2 A.projected t k h w
/-- The residual block. -/
def blocked : Img 96 := residual A.g2 A.b2 A.wr1 A.br1 A.wr2 A.br2 A.joined
/-- The result. -/
def result : Img 96 := gated A.u3 A.c3 A.u4 A.c4 A.blocked

end Args

end Cert.Whole
-- ==== Proof.Blocks1.lean ====
module

public import proofs.«01_k».proof.Proof.Project
public import proofs.«01_k».proof.Proof.Whole
public import proofs.«01_k».proof.Proof.Gen.KernelIdeal.Frame.Record1

/-! What the attention call leaves in its two result arrays: the projected sums of every pixel, and the sums of those over each tile. -/

@[expose] public section
set_option maxRecDepth 16384
noncomputable section

namespace Cert.KernelIdeal.Val.Call1
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The blocks of each window of the call. -/
theorem idx : ∀ t : Fin cfg1.N, win1_0.index t = ![t.val / 8, 0, t.val % 8, 0]
    ∧ win1_1.index t = ![t.val / 8, 0, t.val % 8, 0]
    ∧ win1_2.index t = ![t.val / 8, (t.val % 8 + 7) % 8, 0, 0, 0]
    ∧ win1_3.index t = ![t.val / 8, (t.val % 8 + 1) % 8, 0, 0, 0]
    ∧ win1_4.index t = ![(t.val / 8 + 3) % 4, 0, t.val % 8, 0]
    ∧ win1_5.index t = ![(t.val / 8 + 3) % 4, (t.val % 8 + 7) % 8, 0, 0, 0]
    ∧ win1_6.index t = ![(t.val / 8 + 3) % 4, (t.val % 8 + 1) % 8, 0, 0, 0]
    ∧ win1_7.index t = ![t.val / 8, 0, t.val % 8, 0]
    ∧ win1_8.index t = ![t.val / 8, (t.val % 8 + 7) % 8, 0, 0, 0]
    ∧ win1_9.index t = ![t.val / 8, (t.val % 8 + 1) % 8, 0, 0, 0]
    ∧ win1_10.index t = ![(t.val / 8 + 3) % 4, 0, t.val % 8, 0]
    ∧ win1_11.index t = ![(t.val / 8 + 3) % 4, (t.val % 8 + 7) % 8, 0, 0, 0]
    ∧ win1_12.index t = ![(t.val / 8 + 3) % 4, (t.val % 8 + 1) % 8, 0, 0, 0]
    ∧ win1_13.index t = ![0, 0]
    ∧ win1_14.index t = ![0, 0]
    ∧ win1_15.index t = ![t.val / 8, 0, t.val % 8, 0]
    ∧ win1_16.index t = ![t.val / 8, t.val % 8, 0, 0] :=
  (by decide +kernel : ∀ t : Fin grid1.N, _)

/-- The frame of a grid point. -/
def tOf (n : Fin cfg1.N) : Fin 4 := ⟨n.val / 8, by have := n.isLt; change n.val < 32 at this; omega⟩
/-- The frame before it. -/
def tBefore (n : Fin cfg1.N) : Fin 4 := ⟨(n.val / 8 + 3) % 4, Nat.mod_lt _ (by decide)⟩
/-- The tile of a grid point. -/
def tileOf (n : Fin cfg1.N) : Fin 8 := ⟨n.val % 8, by omega⟩
/-- The tile above. -/
def above (n : Fin cfg1.N) : Fin 8 := ⟨(n.val % 8 + 7) % 8, Nat.mod_lt _ (by decide)⟩
/-- The tile below. -/
def below (n : Fin cfg1.N) : Fin 8 := ⟨(n.val % 8 + 1) % 8, Nat.mod_lt _ (by decide)⟩
/-- The row of the image that is row `e` of a grid point's tile. -/
def hOf (n : Fin cfg1.N) (e : Fin 16) : Fin 128 := ⟨n.val % 8 * 16 + e.val, by omega⟩

theorem blk0 (c : Dev nD) (t : Fin cfg1.N) (ch : Fin 96) (e : Fin 16) (w : Fin 128) :
    (iblk1 V c 0 t : Vec Ideal S1x96x16x128 .bf16) (ix4 0 ch e w)
      = (V c main_v14_0 : Vec Ideal S4x96x128x128 .bf16) (ix4 (tOf t) ch (hOf t e) w) := by
  blk_ext [iblk1, idx t, tOf, hOf]

theorem blk1 (c : Dev nD) (t : Fin cfg1.N) (ch : Fin 96) (e : Fin 16) (w : Fin 128) :
    (iblk1 V c 1 t : Vec Ideal S1x96x16x128 .bf16) (ix4 0 ch e w)
      = (V c main_v14_1 : Vec Ideal S4x96x128x128 .bf16) (ix4 (tOf t) ch (hOf t e) w) := by
  blk_ext [iblk1, idx t, tOf, hOf]

theorem blk4 (c : Dev nD) (t : Fin cfg1.N) (ch : Fin 96) (e : Fin 16) (w : Fin 128) :
    (iblk1 V c 4 t : Vec Ideal S1x96x16x128 .bf16) (ix4 0 ch e w)
      = (V c main_v14_1 : Vec Ideal S4x96x128x128 .bf16) (ix4 (tBefore t) ch (hOf t e) w) := by
  blk_ext [iblk1, idx t, tBefore, hOf]

theorem blk7 (c : Dev nD) (t : Fin cfg1.N) (ch : Fin 96) (e : Fin 16) (w : Fin 128) :
    (iblk1 V c 7 t : Vec Ideal S1x96x16x128 .bf16) (ix4 0 ch e w)
      = (V c main_v14_2 : Vec Ideal S4x96x128x128 .bf16) (ix4 (tOf t) ch (hOf t e) w) := by
  blk_ext [iblk1, idx t, tOf, hOf]

theorem blk10 (c : Dev nD) (t : Fin cfg1.N) (ch : Fin 96) (e : Fin 16) (w : Fin 128) :
    (iblk1 V c 10 t : Vec Ideal S1x96x16x128 .bf16) (ix4 0 ch e w)
      = (V c main_v14_2 : Vec Ideal S4x96x128x128 .bf16) (ix4 (tBefore t) ch (hOf t e) w) := by
  blk_ext [iblk1, idx t, tBefore, hOf]

theorem blk2 (c : Dev nD) (t : Fin cfg1.N) (ch : Fin 96) (e : Fin 2) (w : Fin 128) :
    (iblk1 V c 2 t : Vec Ideal S1x1x96x2x128 .bf16) (ix5 0 0 ch e w)
      = (V c main_v14_3 : Vec Ideal S4x8x96x2x128 .bf16) (ix5 (tOf t) (above t) ch e w) := by
  blk_ext [iblk1, idx t, tOf, above]

theorem blk3 (c : Dev nD) (t : Fin cfg1.N) (ch : Fin 96) (e : Fin 2) (w : Fin 128) :
    (iblk1 V c 3 t : Vec Ideal S1x1x96x2x128 .bf16) (ix5 0 0 ch e w)
      = (V c main_v14_4 : Vec Ideal S4x8x96x2x128 .bf16) (ix5 (tOf t) (below t) ch e w) := by
  blk_ext [iblk1, idx t, tOf, below]

theorem blk5 (c : Dev nD) (t : Fin cfg1.N) (ch : Fin 96) (e : Fin 2) (w : Fin 128) :
    (iblk1 V c 5 t : Vec Ideal S1x1x96x2x128 .bf16) (ix5 0 0 ch e w)
      = (V c main_v14_3 : Vec Ideal S4x8x96x2x128 .bf16) (ix5 (tBefore t) (above t) ch e w) := by
  blk_ext [iblk1, idx t, tBefore, above]

theorem blk6 (c : Dev nD) (t : Fin cfg1.N) (ch : Fin 96) (e : Fin 2) (w : Fin 128) :
    (iblk1 V c 6 t : Vec Ideal S1x1x96x2x128 .bf16) (ix5 0 0 ch e w)
      = (V c main_v14_4 : Vec Ideal S4x8x96x2x128 .bf16) (ix5 (tBefore t) (below t) ch e w) := by
  blk_ext [iblk1, idx t, tBefore, below]

theorem blk8 (c : Dev nD) (t : Fin cfg1.N) (ch : Fin 96) (e : Fin 2) (w : Fin 128) :
    (iblk1 V c 8 t : Vec Ideal S1x1x96x2x128 .bf16) (ix5 0 0 ch e w)
      = (V c main_v14_5 : Vec Ideal S4x8x96x2x128 .bf16) (ix5 (tOf t) (above t) ch e w) := by
  blk_ext [iblk1, idx t, tOf, above]

theorem blk9 (c : Dev nD) (t : Fin cfg1.N) (ch : Fin 96) (e : Fin 2) (w : Fin 128) :
    (iblk1 V c 9 t : Vec Ideal S1x1x96x2x128 .bf16) (ix5 0 0 ch e w)
      = (V c main_v14_6 : Vec Ideal S4x8x96x2x128 .bf16) (ix5 (tOf t) (below t) ch e w) := by
  blk_ext [iblk1, idx t, tOf, below]

theorem blk11 (c : Dev nD) (t : Fin cfg1.N) (ch : Fin 96) (e : Fin 2) (w : Fin 128) :
    (iblk1 V c 11 t : Vec Ideal S1x1x96x2x128 .bf16) (ix5 0 0 ch e w)
      = (V c main_v14_5 : Vec Ideal S4x8x96x2x128 .bf16) (ix5 (tBefore t) (above t) ch e w) := by
  blk_ext [iblk1, idx t, tBefore, above]

theorem blk12 (c : Dev nD) (t : Fin cfg1.N) (ch : Fin 96) (e : Fin 2) (w : Fin 128) :
    (iblk1 V c 12 t : Vec Ideal S1x1x96x2x128 .bf16) (ix5 0 0 ch e w)
      = (V c main_v14_6 : Vec Ideal S4x8x96x2x128 .bf16) (ix5 (tBefore t) (below t) ch e w) := by
  blk_ext [iblk1, idx t, tBefore, below]

theorem blk13 (c : Dev nD) (t : Fin cfg1.N) (j k : Fin 96) :
    (iblk1 V c 13 t : Vec Ideal S96x96 .bf16) (ix2 j k) = (V c main_v15 : Vec Ideal S96x96 .bf16) (ix2 j k) := by
  blk_ext [iblk1, idx t]

theorem blk14 (c : Dev nD) (t : Fin cfg1.N) (j : Fin 96) :
    (iblk1 V c 14 t : Vec Ideal S96x1 .f32) (ix2 j 0) = (V c main_v6 : Vec Ideal S96x1 .f32) (ix2 j 0) := by
  blk_ext [iblk1, idx t]

/-- The twenty rows around a tile, as rows of the image they are cut from: the row before the first follows the last. -/
theorem window_image (K : Fin 96 → Fin 128 → Fin 128 → EReal) (t : Fin cfg1.N) (l f : FVec Ideal S1x1x96x2x128 .bf16)
    (m : FVec Ideal S1x96x16x128 .bf16)
    (hl : ∀ ch (e : Fin 2) w, l (ix5 0 0 ch e w) = K ch ⟨(above t).val * 16 + (14 + e.val), by omega⟩ w)
    (hm : ∀ ch e w, m (ix4 0 ch e w) = K ch (hOf t e) w)
    (hf : ∀ ch (e : Fin 2) w, f (ix5 0 0 ch e w) = K ch ⟨(below t).val * 16 + (0 + e.val), by omega⟩ w)
    (n : Fin 50) (ch : Fin 96) (r : Fin 16) (w : Fin 128) :
    window l m f ch (rowOf n r) (laneOf n w) = K ch (Whole.rowAt n (hOf t r)) (Whole.laneAt n w) := by
  unfold window
  split_ifs with h1 h2
  · rw [hl]
    refine congrArg (fun x => K ch x _) (Fin.ext ?_)
    simp only [rowOf, above, Whole.rowAt, hOf] at h1 ⊢
    omega
  · rw [hm]
    refine congrArg (fun x => K ch x _) (Fin.ext ?_)
    simp only [rowOf, Whole.rowAt, hOf] at h1 h2 ⊢
    omega
  · rw [hf]
    refine congrArg (fun x => K ch x _) (Fin.ext ?_)
    simp only [rowOf, below, Whole.rowAt, hOf] at h1 h2 ⊢
    omega

end Cert.KernelIdeal.Val.Call1
-- ==== Proof.Arrays1.lean ====
module

public import proofs.«01_k».proof.Proof.Blocks1

/-! What the attention call leaves in its two result arrays: the projected sums of every pixel, and the sums of those over each tile. -/

@[expose] public section
set_option maxRecDepth 16384
noncomputable section

namespace Cert.KernelIdeal.Val.Call1
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- What the call's argument arrays hold: queries, keys, values, the two first and two last rows of each tile's keys and values, the
    projection. -/
structure Reads (c : Dev nD) (Q K U : Whole.Img 96) (P : Fin 96 → Fin 96 → EReal) (z : Fin 96 → EReal) : Prop where
  q : ∀ t ch h w, (V c main_v14_0 : Vec Ideal S4x96x128x128 .bf16) (ix4 t ch h w) = Q t ch h w
  k : ∀ t ch h w, (V c main_v14_1 : Vec Ideal S4x96x128x128 .bf16) (ix4 t ch h w) = K t ch h w
  u : ∀ t ch h w, (V c main_v14_2 : Vec Ideal S4x96x128x128 .bf16) (ix4 t ch h w) = U t ch h w
  kl : ∀ t (i : Fin 8) ch (e : Fin 2) w, (V c main_v14_3 : Vec Ideal S4x8x96x2x128 .bf16) (ix5 t i ch e w) = K t ch ⟨i.val * 16 + (14 + e.val), by omega⟩ w
  kf : ∀ t (i : Fin 8) ch (e : Fin 2) w, (V c main_v14_4 : Vec Ideal S4x8x96x2x128 .bf16) (ix5 t i ch e w) = K t ch ⟨i.val * 16 + (0 + e.val), by omega⟩ w
  ul : ∀ t (i : Fin 8) ch (e : Fin 2) w, (V c main_v14_5 : Vec Ideal S4x8x96x2x128 .bf16) (ix5 t i ch e w) = U t ch ⟨i.val * 16 + (14 + e.val), by omega⟩ w
  uf : ∀ t (i : Fin 8) ch (e : Fin 2) w, (V c main_v14_6 : Vec Ideal S4x8x96x2x128 .bf16) (ix5 t i ch e w) = U t ch ⟨i.val * 16 + (0 + e.val), by omega⟩ w
  p : ∀ j k, (V c main_v15 : Vec Ideal S96x96 .bf16) (ix2 j k) = P j k
  z : ∀ j, (V c main_v6 : Vec Ideal S96x1 .f32) (ix2 j 0) = z j

theorem frameAt_now (t : Fin cfg1.N) (n : Fin 50) (h : n.val < 25) : Whole.frameAt n (tOf t) = tOf t := by
  refine Fin.ext ?_
  have := (tOf t).isLt
  simp only [Whole.frameAt]
  omega

theorem frameAt_before (t : Fin cfg1.N) (n : Fin 50) (h : ¬ n.val < 25) : Whole.frameAt n (tOf t) = tBefore t := by
  refine Fin.ext ?_
  have := (tOf t).isLt
  simp only [Whole.frameAt, tOf, tBefore] at this ⊢
  omega

variable {V} {c : Dev nD} {Q K U : Whole.Img 96} {P : Fin 96 → Fin 96 → EReal} {z : Fin 96 → EReal}

theorem keys_image (R : Reads V c Q K U P z) (t : Fin cfg1.N) (n : Fin 50) (ch : Fin 96) (r : Fin 16) (w : Fin 128) :
    (if n.val < 25 then window (iblk1 V c 2 t) (iblk1 V c 1 t) (iblk1 V c 3 t) else window (iblk1 V c 5 t) (iblk1 V c 4 t) (iblk1 V c 6 t))
        ch (rowOf n r) (laneOf n w)
      = K (Whole.frameAt n (tOf t)) ch (Whole.rowAt n (hOf t r)) (Whole.laneAt n w) := by
  split_ifs with h
  · rw [frameAt_now t n h]
    exact window_image (K (tOf t)) t (iblk1 V c 2 t) (iblk1 V c 3 t) (iblk1 V c 1 t)
      (fun ch e w => (blk2 V c t ch e w).trans (R.kl _ _ _ _ _)) (fun ch e w => (blk1 V c t ch e w).trans (R.k _ _ _ _))
      (fun ch e w => (blk3 V c t ch e w).trans (R.kf _ _ _ _ _)) n ch r w
  · rw [frameAt_before t n h]
    exact window_image (K (tBefore t)) t (iblk1 V c 5 t) (iblk1 V c 6 t) (iblk1 V c 4 t)
      (fun ch e w => (blk5 V c t ch e w).trans (R.kl _ _ _ _ _)) (fun ch e w => (blk4 V c t ch e w).trans (R.k _ _ _ _))
      (fun ch e w => (blk6 V c t ch e w).trans (R.kf _ _ _ _ _)) n ch r w

theorem values_image (R : Reads V c Q K U P z) (t : Fin cfg1.N) (n : Fin 50) (ch : Fin 96) (r : Fin 16) (w : Fin 128) :
    (if n.val < 25 then window (iblk1 V c 8 t) (iblk1 V c 7 t) (iblk1 V c 9 t) else window (iblk1 V c 11 t) (iblk1 V c 10 t) (iblk1 V c 12 t))
        ch (rowOf n r) (laneOf n w)
      = U (Whole.frameAt n (tOf t)) ch (Whole.rowAt n (hOf t r)) (Whole.laneAt n w) := by
  split_ifs with h
  · rw [frameAt_now t n h]
    exact window_image (U (tOf t)) t (iblk1 V c 8 t) (iblk1 V c 9 t) (iblk1 V c 7 t)
      (fun ch e w => (blk8 V c t ch e w).trans (R.ul _ _ _ _ _)) (fun ch e w => (blk7 V c t ch e w).trans (R.u _ _ _ _))
      (fun ch e w => (blk9 V c t ch e w).trans (R.uf _ _ _ _ _)) n ch r w
  · rw [frameAt_before t n h]
    exact window_image (U (tBefore t)) t (iblk1 V c 11 t) (iblk1 V c 12 t) (iblk1 V c 10 t)
      (fun ch e w => (blk11 V c t ch e w).trans (R.ul _ _ _ _ _)) (fun ch e w => (blk10 V c t ch e w).trans (R.u _ _ _ _))
      (fun ch e w => (blk12 V c t ch e w).trans (R.uf _ _ _ _ _)) n ch r w

theorem score_image (R : Reads V c Q K U P z) (t : Fin cfg1.N) (n : Fin 50) (r : Fin 16) (w : Fin 128) :
    score (iblk1 V c 0 t) (iblk1 V c 1 t) (iblk1 V c 2 t) (iblk1 V c 3 t) (iblk1 V c 4 t) (iblk1 V c 5 t) (iblk1 V c 6 t) r w n = Whole.score Q K (tOf t) (hOf t r) w n := by
  unfold score Whole.score scaled
  refine Finset.sum_congr rfl fun ch _ => ?_
  rw [keys_image R, blk0, R.q]

theorem attended_image (R : Reads V c Q K U P z) (t : Fin cfg1.N) (ch : Fin 96) (r : Fin 16) (w : Fin 128) :
    attended (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) ch r w
      = Whole.attend Q K U (tOf t) ch (hOf t r) w := by
  unfold attended Whole.attend
  refine Finset.sum_congr rfl fun n _ => ?_
  rw [values_image R]
  exact congrArg (fun d => TopK.share d n * _) (funext fun k => score_image R t k r w)

/-- The image of projected sums. -/
abbrev image (Q K U : Whole.Img 96) (P : Fin 96 → Fin 96 → EReal) (z : Fin 96 → EReal) : Whole.Img 96 :=
  Whole.pixelwise P z (Whole.attend Q K U)

theorem projected_image (R : Reads V c Q K U P z) (t : Fin cfg1.N) (o : Fin 96) (r : Fin 16) (w : Fin 128) :
    projected (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) o r w
      = image Q K U P z (tOf t) o (hOf t r) w := by
  unfold projected image Whole.pixelwise Layer.affine
  rw [blk14, R.z]
  refine congrArg (fun x => x + _) (Finset.sum_congr rfl fun ch _ => ?_)
  rw [attended_image R, blk13, R.p]

/-- The array of an image. -/
def ofImage (X : Whole.Img 96) : Vec Ideal S4x96x128x128 .f32 := fun i => X (i 0) (i 1) (i 2) (i 3)
/-- The array of an image's tile sums. -/
def ofTiles (X : Whole.Img 96) : Vec Ideal S4x8x96x1 .f32 := fun i => Whole.tileSum X (i 0) (i 1) (i 2)

theorem arr15 (R : Reads V c Q K U P z) : (dat1 V c).arrAt 15 cfg1.N = ofImage (image Q K U P z) := by
  refine (dat1 V c).arrAt_eq_of_covers 15 _ (by decide +kernel) fun t _ y => ?_
  blk_simp
  rw [after1_15]
  idx_vars y
  obtain rfl : y0 = 0 := Subsingleton.elim _ _
  rw [out_read, projected_image R]
  show ofImage (image Q K U P z) (ix4 (tOf t) y1 (hOf t y2) y3) = _
  blk_ext [idx t, tOf, hOf]

theorem arr16 (R : Reads V c Q K U P z) : (dat1 V c).arrAt 16 cfg1.N = ofTiles (image Q K U P z) := by
  refine (dat1 V c).arrAt_eq_of_covers 16 _ (by decide +kernel) fun t _ y => ?_
  blk_simp
  rw [after1_16]
  idx_vars y
  obtain rfl : y0 = 0 := Subsingleton.elim _ _
  obtain rfl : y1 = 0 := Subsingleton.elim _ _
  obtain rfl : y3 = 0 := Subsingleton.elim _ _
  rw [pool_read]
  simp only [projected_image R]
  show ofTiles (image Q K U P z) (ix4 (tOf t) (tileOf t) y2 0) = _
  blk_ext [idx t, tOf, tileOf]

end Cert.KernelIdeal.Val.Call1
-- ==== Proof.Fuse.lean ====
module

public import proofs.«01_k».proof.Proof.Gen.KernelIdeal.Frame.Region2
public import proofs.«01_k».proof.Proof.Layers
public import proofs.«01_k».proof.Proof.Sums
public import Idealize.ShloMosaic.Lib.Pipeline.ValueKit
public import Idealize.ShloMosaic.Lib.Pointwise

/-! What one block of the third call computes: the gated sum, normalised, through the residual block; and its sum over the
    block. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 x1 : Vec Ideal S1x96x16x128 .f32) (x2 : Vec Ideal S1x8x96x1 .f32) (x3 : Vec Ideal S12x96 .f32) (x4 : Vec Ideal S12x1 .f32)
  (x5 : Vec Ideal S96x12 .f32) (x6 x7 x8 : Vec Ideal S96x1 .f32) (x9 : Vec Ideal S96x96 .bf16) (x10 : Vec Ideal S96x1 .f32)
  (x11 : Vec Ideal S96x96 .bf16) (x12 : Vec Ideal S96x1 .f32)

/-- The gate of the channels' averages, the averages given as the tiles' sums. -/
def gateOf (c : Fin 96) : EReal :=
  Layer.gate (fun j k => x3 (ix2 j k)) (fun j => x4 (ix2 j 0)) (fun k j => x5 (ix2 k j)) (fun k => x6 (ix2 k 0))
    (fun k => (∑ h : Fin 8, (x2 (ix4 0 h k 0) : EReal)) * Ideal.ofBits .f32 0x38800000#32) c

/-- The first array plus the gated second. -/
def gatedSum (c : Fin 96) (r : Fin 16) (w : Fin 128) : EReal :=
  HAdd.hAdd (α := EReal) (β := EReal) (x0 (ix4 0 c r w)) (HMul.hMul (α := EReal) (β := EReal) (x1 (ix4 0 c r w)) (gateOf x2 x3 x4 x5 x6 c))

/-- The residual block's result. -/
def fused (c : Fin 96) (r : Fin 16) (w : Fin 128) : EReal :=
  Layer.block (fun j k => x9 (ix2 j k)) (fun j => x10 (ix2 j 0)) (fun j k => x11 (ix2 j k)) (fun j => x12 (ix2 j 0))
    (Layer.norm (fun k => gatedSum x0 x1 x2 x3 x4 x5 x6 k r w) (fun k => x7 (ix2 k 0)) (fun k => x8 (ix2 k 0))) c

theorem gatedSum_read (c : Fin 96) (r : Fin 16) (w : Fin 128) :
    k2_pay8 (F := Ideal) x0 x1 x2 x3 x4 x5 x6 x7 x8 x9 x10 x11 x12 (ix3 c r w) = gatedSum x0 x1 x2 x3 x4 x5 x6 c r w := by
  pointwise [k2_pay8, k2_pay4, r2_0, r2_1, r2_2, r2_3, r2_4, r2_5, gatedSum, gateOf, Layer.gate, Layer.affine]

/-- The normalised channels at one of the block's pixels, numbered in one row. -/
theorem normed_read (c : Fin 96) (p : Fin 2048) :
    k2_pay10 (F := Ideal) x0 x1 x2 x3 x4 x5 x6 x7 x8 x9 x10 x11 x12 (ix2 c p)
      = Layer.norm (fun k => gatedSum x0 x1 x2 x3 x4 x5 x6 k ⟨p.val / 128, by omega⟩ ⟨p.val % 128, by omega⟩)
          (fun k => x7 (ix2 k 0)) (fun k => x8 (ix2 k 0)) c := by
  pointwise [k2_pay10, k2_pay9, k2_pay6, k2_pay5, r2_4, gatedSum_read, Layer.norm, Layer.spread, Layer.mean]

theorem fused_read (c : Fin 96) (p : Fin 2048) :
    k2_pay1 (F := Ideal) (k2_pay10 x0 x1 x2 x3 x4 x5 x6 x7 x8 x9 x10 x11 x12) (k2_pay11 x0 x1 x2 x3 x4 x5 x6 x7 x8 x9 x10 x11 x12) (ix2 c p)
      = fused x0 x1 x2 x3 x4 x5 x6 x7 x8 x9 x10 x11 x12 c ⟨p.val / 128, by omega⟩ ⟨p.val % 128, by omega⟩ := by
  unfold k2_pay11 k2_pay7
  rw [show k2_pay6 (F := Ideal) (k2_pay8 x0 x1 x2 x3 x4 x5 x6 x7 x8 x9 x10 x11 x12) (k2_pay9 x0 x1 x2 x3 x4 x5 x6 x7 x8 x9 x10 x11 x12) (View.ld x8 r2_4)
    = k2_pay10 x0 x1 x2 x3 x4 x5 x6 x7 x8 x9 x10 x11 x12 from rfl]
  pointwise [k2_pay1, r2_4, r2_6, normed_read, fused, Layer.block, Layer.affine]

theorem out2_13_read (c : Fin 96) (r : Fin 16) (w : Fin 128) :
    out2_13 (F := Ideal) x0 x1 x2 x3 x4 x5 x6 x7 x8 x9 x10 x11 x12 (ix4 0 c r w) = fused x0 x1 x2 x3 x4 x5 x6 x7 x8 x9 x10 x11 x12 c r w := by
  unfold out2_13
  rw [View.canon_cons_unit_lit _ _ _ (by decide)]
  pointwise [k2_pay2, fused_read]
  congr 1 <;> exact Fin.ext (by simp only []; omega)

theorem out2_14_read (c : Fin 96) :
    out2_14 (F := Ideal) x0 x1 x2 x3 x4 x5 x6 x7 x8 x9 x10 x11 x12 (ix4 0 0 c 0) = ∑ r, ∑ w, fused x0 x1 x2 x3 x4 x5 x6 x7 x8 x9 x10 x11 x12 c r w := by
  unfold out2_14
  rw [View.canon_cons_unit_lit _ _ _ (by decide)]
  pointwise [k2_pay3, fused_read]
  exact sum_pixels fun r w => fused x0 x1 x2 x3 x4 x5 x6 x7 x8 x9 x10 x11 x12 c r w

end Cert.KernelIdeal.Val
-- ==== Proof.Arrays2.lean ====
module

public import proofs.«01_k».proof.Proof.Fuse
public import proofs.«01_k».proof.Proof.Whole
public import proofs.«01_k».proof.Proof.Gen.KernelIdeal.Frame.Record2

/-! What the third call leaves in its two result arrays: the residual block of every pixel, and its sums over each tile. -/

@[expose] public section
set_option maxRecDepth 16384
noncomputable section

namespace Cert.KernelIdeal.Val.Call2
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The blocks of each window of the call. -/
theorem idx : ∀ t : Fin cfg2.N, win2_0.index t = ![t.val / 8, 0, t.val % 8, 0]
    ∧ win2_1.index t = ![t.val / 8, 0, t.val % 8, 0]
    ∧ win2_2.index t = ![t.val / 8, 0, 0, 0]
    ∧ win2_3.index t = ![0, 0]
    ∧ win2_4.index t = ![0, 0]
    ∧ win2_5.index t = ![0, 0]
    ∧ win2_6.index t = ![0, 0]
    ∧ win2_7.index t = ![0, 0]
    ∧ win2_8.index t = ![0, 0]
    ∧ win2_9.index t = ![0, 0]
    ∧ win2_10.index t = ![0, 0]
    ∧ win2_11.index t = ![0, 0]
    ∧ win2_12.index t = ![0, 0]
    ∧ win2_13.index t = ![t.val / 8, 0, t.val % 8, 0]
    ∧ win2_14.index t = ![t.val / 8, t.val % 8, 0, 0] :=
  (by decide +kernel : ∀ t : Fin grid2.N, _)

/-- The frame of a grid point. -/
def tOf (n : Fin cfg2.N) : Fin 4 := ⟨n.val / 8, by have := n.isLt; change n.val < 32 at this; omega⟩
/-- The tile of a grid point. -/
def tileOf (n : Fin cfg2.N) : Fin 8 := ⟨n.val % 8, by omega⟩
/-- The row of the image that is row `e` of a grid point's tile. -/
def hOf (n : Fin cfg2.N) (e : Fin 16) : Fin 128 := ⟨n.val % 8 * 16 + e.val, by omega⟩

theorem blk0 (c : Dev nD) (t : Fin cfg2.N) (ch : Fin 96) (e : Fin 16) (w : Fin 128) :
    (iblk2 V c 0 t : Vec Ideal S1x96x16x128 .f32) (ix4 0 ch e w)
      = (V c main_v0 : Vec Ideal S4x96x128x128 .f32) (ix4 (tOf t) ch (hOf t e) w) := by
  blk_ext [iblk2, idx t, tOf, hOf]

theorem blk1 (c : Dev nD) (t : Fin cfg2.N) (ch : Fin 96) (e : Fin 16) (w : Fin 128) :
    (iblk2 V c 1 t : Vec Ideal S1x96x16x128 .f32) (ix4 0 ch e w)
      = (V c main_v16_0 : Vec Ideal S4x96x128x128 .f32) (ix4 (tOf t) ch (hOf t e) w) := by
  blk_ext [iblk2, idx t, tOf, hOf]

theorem blk2 (c : Dev nD) (t : Fin cfg2.N) (i : Fin 8) (ch : Fin 96) :
    (iblk2 V c 2 t : Vec Ideal S1x8x96x1 .f32) (ix4 0 i ch 0)
      = (V c main_v16_1 : Vec Ideal S4x8x96x1 .f32) (ix4 (tOf t) i ch 0) := by
  blk_ext [iblk2, idx t, tOf]

theorem blk3 (c : Dev nD) (t : Fin cfg2.N) (j : Fin 12) (k : Fin 96) :
    (iblk2 V c 3 t : Vec Ideal S12x96 .f32) (ix2 j k) = (V c main_arg9 : Vec Ideal S12x96 .f32) (ix2 j k) := by
  blk_ext [iblk2, idx t]

theorem blk4 (c : Dev nD) (t : Fin cfg2.N) (j : Fin 12) :
    (iblk2 V c 4 t : Vec Ideal S12x1 .f32) (ix2 j 0) = (V c main_v9 : Vec Ideal S12x1 .f32) (ix2 j 0) := by
  blk_ext [iblk2, idx t]

theorem blk5 (c : Dev nD) (t : Fin cfg2.N) (j : Fin 96) (k : Fin 12) :
    (iblk2 V c 5 t : Vec Ideal S96x12 .f32) (ix2 j k) = (V c main_arg11 : Vec Ideal S96x12 .f32) (ix2 j k) := by
  blk_ext [iblk2, idx t]

theorem blk6 (c : Dev nD) (t : Fin cfg2.N) (j : Fin 96) :
    (iblk2 V c 6 t : Vec Ideal S96x1 .f32) (ix2 j 0) = (V c main_v10 : Vec Ideal S96x1 .f32) (ix2 j 0) := by
  blk_ext [iblk2, idx t]

theorem blk7 (c : Dev nD) (t : Fin cfg2.N) (j : Fin 96) :
    (iblk2 V c 7 t : Vec Ideal S96x1 .f32) (ix2 j 0) = (V c main_v3 : Vec Ideal S96x1 .f32) (ix2 j 0) := by
  blk_ext [iblk2, idx t]

theorem blk8 (c : Dev nD) (t : Fin cfg2.N) (j : Fin 96) :
    (iblk2 V c 8 t : Vec Ideal S96x1 .f32) (ix2 j 0) = (V c main_v4 : Vec Ideal S96x1 .f32) (ix2 j 0) := by
  blk_ext [iblk2, idx t]

theorem blk9 (c : Dev nD) (t : Fin cfg2.N) (j : Fin 96) (k : Fin 96) :
    (iblk2 V c 9 t : Vec Ideal S96x96 .bf16) (ix2 j k) = (V c main_v17 : Vec Ideal S96x96 .bf16) (ix2 j k) := by
  blk_ext [iblk2, idx t]

theorem blk10 (c : Dev nD) (t : Fin cfg2.N) (j : Fin 96) :
    (iblk2 V c 10 t : Vec Ideal S96x1 .f32) (ix2 j 0) = (V c main_v7 : Vec Ideal S96x1 .f32) (ix2 j 0) := by
  blk_ext [iblk2, idx t]

theorem blk11 (c : Dev nD) (t : Fin cfg2.N) (j : Fin 96) (k : Fin 96) :
    (iblk2 V c 11 t : Vec Ideal S96x96 .bf16) (ix2 j k) = (V c main_v18 : Vec Ideal S96x96 .bf16) (ix2 j k) := by
  blk_ext [iblk2, idx t]

theorem blk12 (c : Dev nD) (t : Fin cfg2.N) (j : Fin 96) :
    (iblk2 V c 12 t : Vec Ideal S96x1 .f32) (ix2 j 0) = (V c main_v8 : Vec Ideal S96x1 .f32) (ix2 j 0) := by
  blk_ext [iblk2, idx t]

/-- The array of an image. -/
def ofImage (X : Whole.Img 96) : Vec Ideal S4x96x128x128 .f32 := fun i => X (i 0) (i 1) (i 2) (i 3)
/-- The array of an image's tile sums. -/
def ofTiles (X : Whole.Img 96) : Vec Ideal S4x8x96x1 .f32 := fun i => Whole.tileSum X (i 0) (i 1) (i 2)

/-- What the call's argument arrays hold. -/
structure Reads (c : Dev nD) (X Y : Whole.Img 96) (W1 : Fin 12 → Fin 96 → EReal) (a1 : Fin 12 → EReal) (W2 : Fin 96 → Fin 12 → EReal) (a2 : Fin 96 → EReal)
    (g b : Fin 96 → EReal) (M1 : Fin 96 → Fin 96 → EReal) (d1 : Fin 96 → EReal) (M2 : Fin 96 → Fin 96 → EReal) (d2 : Fin 96 → EReal) : Prop where
  x : ∀ t ch h w, (V c main_v0 : Vec Ideal S4x96x128x128 .f32) (ix4 t ch h w) = X t ch h w
  y : ∀ t ch h w, (V c main_v16_0 : Vec Ideal S4x96x128x128 .f32) (ix4 t ch h w) = Y t ch h w
  s : ∀ t i ch, (V c main_v16_1 : Vec Ideal S4x8x96x1 .f32) (ix4 t i ch 0) = Whole.tileSum Y t i ch
  w1 : ∀ j k, (V c main_arg9 : Vec Ideal S12x96 .f32) (ix2 j k) = W1 j k
  a1 : ∀ j, (V c main_v9 : Vec Ideal S12x1 .f32) (ix2 j 0) = a1 j
  w2 : ∀ j k, (V c main_arg11 : Vec Ideal S96x12 .f32) (ix2 j k) = W2 j k
  a2 : ∀ j, (V c main_v10 : Vec Ideal S96x1 .f32) (ix2 j 0) = a2 j
  g : ∀ j, (V c main_v3 : Vec Ideal S96x1 .f32) (ix2 j 0) = g j
  b : ∀ j, (V c main_v4 : Vec Ideal S96x1 .f32) (ix2 j 0) = b j
  m1 : ∀ j k, (V c main_v17 : Vec Ideal S96x96 .bf16) (ix2 j k) = M1 j k
  d1 : ∀ j, (V c main_v7 : Vec Ideal S96x1 .f32) (ix2 j 0) = d1 j
  m2 : ∀ j k, (V c main_v18 : Vec Ideal S96x96 .bf16) (ix2 j k) = M2 j k
  d2 : ∀ j, (V c main_v8 : Vec Ideal S96x1 .f32) (ix2 j 0) = d2 j

variable {V} {c : Dev nD} {X Y : Whole.Img 96} {W1 : Fin 12 → Fin 96 → EReal} {a1 : Fin 12 → EReal} {W2 : Fin 96 → Fin 12 → EReal} {a2 : Fin 96 → EReal}
  {g b : Fin 96 → EReal} {M1 : Fin 96 → Fin 96 → EReal} {d1 : Fin 96 → EReal} {M2 : Fin 96 → Fin 96 → EReal} {d2 : Fin 96 → EReal}

theorem gate_blk (R : Reads V c X Y W1 a1 W2 a2 g b M1 d1 M2 d2) (t : Fin cfg2.N) (ch : Fin 96) :
    gateOf (iblk2 V c 2 t) (iblk2 V c 3 t) (iblk2 V c 4 t) (iblk2 V c 5 t) (iblk2 V c 6 t) ch = Whole.gate W1 a1 W2 a2 Y (tOf t) ch := by
  unfold gateOf Whole.gate Whole.average
  simp only [blk2, blk3, blk4, blk5, blk6, R.s, R.w1, R.a1, R.w2, R.a2]

theorem image_blk (R : Reads V c X Y W1 a1 W2 a2 g b M1 d1 M2 d2) (t : Fin cfg2.N) (ch : Fin 96) (r : Fin 16) (w : Fin 128) :
    fused (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) ch r w
      = Whole.residual g b M1 d1 M2 d2 (fun t k h w => X t k h w + Whole.gated W1 a1 W2 a2 Y t k h w) (tOf t) ch (hOf t r) w := by
  unfold fused gatedSum Whole.residual Whole.gated
  simp only [gate_blk R, blk0, blk1, blk7, blk8, blk9, blk10, blk11, blk12, R.x, R.y, R.g, R.b, R.m1, R.d1, R.m2, R.d2]

theorem arr13 (R : Reads V c X Y W1 a1 W2 a2 g b M1 d1 M2 d2) : (dat2 V c).arrAt 13 cfg2.N = ofImage (Whole.residual g b M1 d1 M2 d2 (fun t k h w => X t k h w + Whole.gated W1 a1 W2 a2 Y t k h w)) := by
  refine (dat2 V c).arrAt_eq_of_covers 13 _ (by decide +kernel) fun t _ y => ?_
  blk_simp
  rw [after2_13]
  idx_vars y
  obtain rfl : y0 = 0 := Subsingleton.elim _ _
  rw [out2_13_read]
  refine (image_blk R t y1 y2 y3).trans ?_
  show ofImage (Whole.residual g b M1 d1 M2 d2 (fun t k h w => X t k h w + Whole.gated W1 a1 W2 a2 Y t k h w)) (ix4 (tOf t) y1 (hOf t y2) y3) = _
  blk_ext [idx t, tOf, hOf]

theorem arr14 (R : Reads V c X Y W1 a1 W2 a2 g b M1 d1 M2 d2) : (dat2 V c).arrAt 14 cfg2.N = ofTiles (Whole.residual g b M1 d1 M2 d2 (fun t k h w => X t k h w + Whole.gated W1 a1 W2 a2 Y t k h w)) := by
  refine (dat2 V c).arrAt_eq_of_covers 14 _ (by decide +kernel) fun t _ y => ?_
  blk_simp
  rw [after2_14]
  idx_vars y
  obtain rfl : y0 = 0 := Subsingleton.elim _ _
  obtain rfl : y1 = 0 := Subsingleton.elim _ _
  obtain rfl : y3 = 0 := Subsingleton.elim _ _
  rw [out2_14_read]
  refine (Finset.sum_congr rfl fun r _ => Finset.sum_congr rfl fun w _ => image_blk R t y2 r w).trans ?_
  show ofTiles (Whole.residual g b M1 d1 M2 d2 (fun t k h w => X t k h w + Whole.gated W1 a1 W2 a2 Y t k h w)) (ix4 (tOf t) (tileOf t) y2 0) = _
  blk_ext [idx t, tOf, tileOf]

end Cert.KernelIdeal.Val.Call2
-- ==== Proof.Rescale.lean ====
module

public import proofs.«01_k».proof.Proof.Gen.KernelIdeal.Frame.Region3
public import proofs.«01_k».proof.Proof.Layers
public import Idealize.ShloMosaic.Lib.Pipeline.ValueKit
public import Idealize.ShloMosaic.Lib.Pointwise

/-! What one block of the last call computes: an array times its channels' gates. -/

@[expose] public section
set_option maxRecDepth 16384
noncomputable section

namespace Cert.KernelIdeal.Val
open Idealize.ShloMosaic Idealize.ShloMosaic.TcCoe Idealize.SL.Sem
open Cert.KernelIdeal Cert.KernelIdeal.Gen

variable (x0 : Vec Ideal S1x96x16x128 .f32) (x1 : Vec Ideal S1x8x96x1 .f32) (x2 : Vec Ideal S12x96 .f32) (x3 : Vec Ideal S12x1 .f32)
  (x4 : Vec Ideal S96x12 .f32) (x5 : Vec Ideal S96x1 .f32)

theorem out3_6_read (c : Fin 96) (r : Fin 16) (w : Fin 128) :
    out3_6 (F := Ideal) x0 x1 x2 x3 x4 x5 (ix4 0 c r w)
      = HMul.hMul (α := EReal) (β := EReal) (x0 (ix4 0 c r w))
          (Layer.gate (fun j k => x2 (ix2 j k)) (fun j => x3 (ix2 j 0)) (fun k j => x4 (ix2 k j)) (fun k => x5 (ix2 k 0))
            (fun k => (∑ h : Fin 8, (x1 (ix4 0 h k 0) : EReal)) * Ideal.ofBits .f32 0x38800000#32) c) := by
  unfold out3_6
  rw [View.canon_cons_unit_lit _ _ _ (by decide)]
  pointwise [k3_pay1, r3_0, r3_1, r3_2, r3_3, r3_4, r3_5, Layer.gate, Layer.affine]

end Cert.KernelIdeal.Val
-- ==== Proof.Arrays3.lean ====
module

public import proofs.«01_k».proof.Proof.Rescale
public import proofs.«01_k».proof.Proof.Whole
public import proofs.«01_k».proof.Proof.Gen.KernelIdeal.Frame.Record3

/-! What the last call leaves in its result array: every pixel times its channel gate. -/

@[expose] public section
set_option maxRecDepth 16384
noncomputable section

namespace Cert.KernelIdeal.Val.Call3
open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The blocks of each window of the call. -/
theorem idx : ∀ t : Fin cfg3.N, win3_0.index t = ![t.val / 8, 0, t.val % 8, 0]
    ∧ win3_1.index t = ![t.val / 8, 0, 0, 0]
    ∧ win3_2.index t = ![0, 0]
    ∧ win3_3.index t = ![0, 0]
    ∧ win3_4.index t = ![0, 0]
    ∧ win3_5.index t = ![0, 0]
    ∧ win3_6.index t = ![t.val / 8, 0, t.val % 8, 0] :=
  (by decide +kernel : ∀ t : Fin grid3.N, _)

/-- The frame of a grid point. -/
def tOf (n : Fin cfg3.N) : Fin 4 := ⟨n.val / 8, by have := n.isLt; change n.val < 32 at this; omega⟩
/-- The tile of a grid point. -/
def tileOf (n : Fin cfg3.N) : Fin 8 := ⟨n.val % 8, by omega⟩
/-- The row of the image that is row `e` of a grid point's tile. -/
def hOf (n : Fin cfg3.N) (e : Fin 16) : Fin 128 := ⟨n.val % 8 * 16 + e.val, by omega⟩

theorem blk0 (c : Dev nD) (t : Fin cfg3.N) (ch : Fin 96) (e : Fin 16) (w : Fin 128) :
    (iblk3 V c 0 t : Vec Ideal S1x96x16x128 .f32) (ix4 0 ch e w)
      = (V c main_v19_0 : Vec Ideal S4x96x128x128 .f32) (ix4 (tOf t) ch (hOf t e) w) := by
  blk_ext [iblk3, idx t, tOf, hOf]

theorem blk1 (c : Dev nD) (t : Fin cfg3.N) (i : Fin 8) (ch : Fin 96) :
    (iblk3 V c 1 t : Vec Ideal S1x8x96x1 .f32) (ix4 0 i ch 0)
      = (V c main_v19_1 : Vec Ideal S4x8x96x1 .f32) (ix4 (tOf t) i ch 0) := by
  blk_ext [iblk3, idx t, tOf]

theorem blk2 (c : Dev nD) (t : Fin cfg3.N) (j : Fin 12) (k : Fin 96) :
    (iblk3 V c 2 t : Vec Ideal S12x96 .f32) (ix2 j k) = (V c main_arg17 : Vec Ideal S12x96 .f32) (ix2 j k) := by
  blk_ext [iblk3, idx t]

theorem blk3 (c : Dev nD) (t : Fin cfg3.N) (j : Fin 12) :
    (iblk3 V c 3 t : Vec Ideal S12x1 .f32) (ix2 j 0) = (V c main_v11 : Vec Ideal S12x1 .f32) (ix2 j 0) := by
  blk_ext [iblk3, idx t]

theorem blk4 (c : Dev nD) (t : Fin cfg3.N) (j : Fin 96) (k : Fin 12) :
    (iblk3 V c 4 t : Vec Ideal S96x12 .f32) (ix2 j k) = (V c main_arg19 : Vec Ideal S96x12 .f32) (ix2 j k) := by
  blk_ext [iblk3, idx t]

theorem blk5 (c : Dev nD) (t : Fin cfg3.N) (j : Fin 96) :
    (iblk3 V c 5 t : Vec Ideal S96x1 .f32) (ix2 j 0) = (V c main_v12 : Vec Ideal S96x1 .f32) (ix2 j 0) := by
  blk_ext [iblk3, idx t]

/-- The array of an image. -/
def ofImage (X : Whole.Img 96) : Vec Ideal S4x96x128x128 .f32 := fun i => X (i 0) (i 1) (i 2) (i 3)

/-- What the call's argument arrays hold. -/
structure Reads (c : Dev nD) (Y : Whole.Img 96) (W1 : Fin 12 → Fin 96 → EReal) (a1 : Fin 12 → EReal) (W2 : Fin 96 → Fin 12 → EReal) (a2 : Fin 96 → EReal) : Prop where
  y : ∀ t ch h w, (V c main_v19_0 : Vec Ideal S4x96x128x128 .f32) (ix4 t ch h w) = Y t ch h w
  s : ∀ t i ch, (V c main_v19_1 : Vec Ideal S4x8x96x1 .f32) (ix4 t i ch 0) = Whole.tileSum Y t i ch
  w1 : ∀ j k, (V c main_arg17 : Vec Ideal S12x96 .f32) (ix2 j k) = W1 j k
  a1 : ∀ j, (V c main_v11 : Vec Ideal S12x1 .f32) (ix2 j 0) = a1 j
  w2 : ∀ j k, (V c main_arg19 : Vec Ideal S96x12 .f32) (ix2 j k) = W2 j k
  a2 : ∀ j, (V c main_v12 : Vec Ideal S96x1 .f32) (ix2 j 0) = a2 j

variable {V} {c : Dev nD} {Y : Whole.Img 96} {W1 : Fin 12 → Fin 96 → EReal} {a1 : Fin 12 → EReal} {W2 : Fin 96 → Fin 12 → EReal} {a2 : Fin 96 → EReal}

theorem arr6 (R : Reads V c Y W1 a1 W2 a2) : (dat3 V c).arrAt 6 cfg3.N = ofImage (Whole.gated W1 a1 W2 a2 Y) := by
  refine (dat3 V c).arrAt_eq_of_covers 6 _ (by decide +kernel) fun t _ y => ?_
  blk_simp
  rw [after3_6]
  idx_vars y
  obtain rfl : y0 = 0 := Subsingleton.elim _ _
  rw [out3_6_read]
  simp only [blk0, blk1, blk2, blk3, blk4, blk5, R.y, R.s, R.w1, R.a1, R.w2, R.a2]
  show ofImage (Whole.gated W1 a1 W2 a2 Y) (ix4 (tOf t) y1 (hOf t y2) y3) = _
  blk_ext [idx t, tOf, hOf]

end Cert.KernelIdeal.Val.Call3
-- ==== Proof.Host.lean ====
module

public import proofs.«01_k».proof.Proof.Whole
public import proofs.«01_k».proof.Proof.Gen.KernelIdeal.Frame
public import Idealize.ShloMosaic.Lib.Pipeline.ValueKit

/-! What the kernel program's host operations leave in the buffers they write, of the arguments at launch. -/

@[expose] public section
set_option maxRecDepth 16384
noncomputable section

namespace Cert.KernelIdeal.Val.Host
open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The arguments, as functions. -/
def args : Whole.Args where
  x := fun t ch h w => (m ((c.tc : Thread nD τ).loc main_arg0) : Vec Ideal S1x4x96x128x128 .f32) (ix5 0 t ch h w)
  g1 := fun j => (m ((c.tc : Thread nD τ).loc main_arg1) : Vec Ideal S96 .f32) (ix1 j)
  b1 := fun j => (m ((c.tc : Thread nD τ).loc main_arg2) : Vec Ideal S96 .f32) (ix1 j)
  g2 := fun j => (m ((c.tc : Thread nD τ).loc main_arg3) : Vec Ideal S96 .f32) (ix1 j)
  b2 := fun j => (m ((c.tc : Thread nD τ).loc main_arg4) : Vec Ideal S96 .f32) (ix1 j)
  wqkv := fun j k => (m ((c.tc : Thread nD τ).loc main_arg5) : Vec Ideal S288x96 .f32) (ix2 j k)
  bqkv := fun j => (m ((c.tc : Thread nD τ).loc main_arg6) : Vec Ideal S288 .f32) (ix1 j)
  wproj := fun j k => (m ((c.tc : Thread nD τ).loc main_arg7) : Vec Ideal S96x96 .f32) (ix2 j k)
  bproj := fun j => (m ((c.tc : Thread nD τ).loc main_arg8) : Vec Ideal S96 .f32) (ix1 j)
  u1 := fun j k => (m ((c.tc : Thread nD τ).loc main_arg9) : Vec Ideal S12x96 .f32) (ix2 j k)
  c1 := fun j => (m ((c.tc : Thread nD τ).loc main_arg10) : Vec Ideal S12 .f32) (ix1 j)
  u2 := fun j k => (m ((c.tc : Thread nD τ).loc main_arg11) : Vec Ideal S96x12 .f32) (ix2 j k)
  c2 := fun j => (m ((c.tc : Thread nD τ).loc main_arg12) : Vec Ideal S96 .f32) (ix1 j)
  wr1 := fun j k => (m ((c.tc : Thread nD τ).loc main_arg13) : Vec Ideal S96x96 .f32) (ix2 j k)
  br1 := fun j => (m ((c.tc : Thread nD τ).loc main_arg14) : Vec Ideal S96 .f32) (ix1 j)
  wr2 := fun j k => (m ((c.tc : Thread nD τ).loc main_arg15) : Vec Ideal S96x96 .f32) (ix2 j k)
  br2 := fun j => (m ((c.tc : Thread nD τ).loc main_arg16) : Vec Ideal S96 .f32) (ix1 j)
  u3 := fun j k => (m ((c.tc : Thread nD τ).loc main_arg17) : Vec Ideal S12x96 .f32) (ix2 j k)
  c3 := fun j => (m ((c.tc : Thread nD τ).loc main_arg18) : Vec Ideal S12 .f32) (ix1 j)
  u4 := fun j k => (m ((c.tc : Thread nD τ).loc main_arg19) : Vec Ideal S96x12 .f32) (ix2 j k)
  c4 := fun j => (m ((c.tc : Thread nD τ).loc main_arg20) : Vec Ideal S96 .f32) (ix1 j)

theorem v0_read (t : Fin 4) (ch : Fin 96) (h w : Fin 128) :
    (W1 m ρ c (Proc.devRef .tc main_v0) : Vec Ideal S4x96x128x128 .f32) (ix4 t ch h w) = (args m c).x t ch h w := by
  unfold W1
  after_results
  pointwise [args]

theorem v1_read (j : Fin 96) :
    (W1 m ρ c (Proc.devRef .tc main_v1) : Vec Ideal S96x1 .f32) (ix2 j 0) = (args m c).g1 j := by
  unfold W1
  after_results
  pointwise [args]

theorem v2_read (j : Fin 96) :
    (W1 m ρ c (Proc.devRef .tc main_v2) : Vec Ideal S96x1 .f32) (ix2 j 0) = (args m c).b1 j := by
  unfold W1
  after_results
  pointwise [args]

theorem v3_read (j : Fin 96) :
    (W1 m ρ c (Proc.devRef .tc main_v3) : Vec Ideal S96x1 .f32) (ix2 j 0) = (args m c).g2 j := by
  unfold W1
  after_results
  pointwise [args]

theorem v4_read (j : Fin 96) :
    (W1 m ρ c (Proc.devRef .tc main_v4) : Vec Ideal S96x1 .f32) (ix2 j 0) = (args m c).b2 j := by
  unfold W1
  after_results
  pointwise [args]

theorem v5_read (j : Fin 288) :
    (W1 m ρ c (Proc.devRef .tc main_v5) : Vec Ideal S288x1 .f32) (ix2 j 0) = (args m c).bqkv j := by
  unfold W1
  after_results
  pointwise [args]

theorem v6_read (j : Fin 96) :
    (W1 m ρ c (Proc.devRef .tc main_v6) : Vec Ideal S96x1 .f32) (ix2 j 0) = (args m c).bproj j := by
  unfold W1
  after_results
  pointwise [args]

theorem v7_read (j : Fin 96) :
    (W1 m ρ c (Proc.devRef .tc main_v7) : Vec Ideal S96x1 .f32) (ix2 j 0) = (args m c).br1 j := by
  unfold W1
  after_results
  pointwise [args]

theorem v8_read (j : Fin 96) :
    (W1 m ρ c (Proc.devRef .tc main_v8) : Vec Ideal S96x1 .f32) (ix2 j 0) = (args m c).br2 j := by
  unfold W1
  after_results
  pointwise [args]

theorem v9_read (j : Fin 12) :
    (W1 m ρ c (Proc.devRef .tc main_v9) : Vec Ideal S12x1 .f32) (ix2 j 0) = (args m c).c1 j := by
  unfold W1
  after_results
  pointwise [args]

theorem v10_read (j : Fin 96) :
    (W1 m ρ c (Proc.devRef .tc main_v10) : Vec Ideal S96x1 .f32) (ix2 j 0) = (args m c).c2 j := by
  unfold W1
  after_results
  pointwise [args]

theorem v11_read (j : Fin 12) :
    (W1 m ρ c (Proc.devRef .tc main_v11) : Vec Ideal S12x1 .f32) (ix2 j 0) = (args m c).c3 j := by
  unfold W1
  after_results
  pointwise [args]

theorem v12_read (j : Fin 96) :
    (W1 m ρ c (Proc.devRef .tc main_v12) : Vec Ideal S96x1 .f32) (ix2 j 0) = (args m c).c4 j := by
  unfold W1
  after_results
  pointwise [args]

theorem v13_read (j : Fin 288) (k : Fin 96) :
    (W1 m ρ c (Proc.devRef .tc main_v13) : Vec Ideal S288x96 .bf16) (ix2 j k) = (args m c).wqkv j k := by
  have e : W0 m ρ c (Proc.devRef .tc main_arg5) = m ((c.tc : Thread nD τ).loc main_arg5) := W0_args m ρ c main_arg5 (by decide)
  unfold W1
  after_results
  rw [e]
  pointwise [args]

theorem v15_read (j : Fin 96) (k : Fin 96) :
    (W3 m ρ c (Proc.devRef .tc main_v15) : Vec Ideal S96x96 .bf16) (ix2 j k) = (args m c).wproj j k := by
  have e : W2 m ρ c (Proc.devRef .tc main_arg7) = m ((c.tc : Thread nD τ).loc main_arg7) := W2_args m ρ c main_arg7 (by decide)
  unfold W3
  after_results
  rw [e]
  pointwise [args]

theorem v17_read (j : Fin 96) (k : Fin 96) :
    (W5 m ρ c (Proc.devRef .tc main_v17) : Vec Ideal S96x96 .bf16) (ix2 j k) = (args m c).wr1 j k := by
  have e : W4 m ρ c (Proc.devRef .tc main_arg13) = m ((c.tc : Thread nD τ).loc main_arg13) := W4_args m ρ c main_arg13 (by decide)
  unfold W5
  after_results
  rw [e]
  pointwise [args]

theorem v18_read (j : Fin 96) (k : Fin 96) :
    (W5 m ρ c (Proc.devRef .tc main_v18) : Vec Ideal S96x96 .bf16) (ix2 j k) = (args m c).wr2 j k := by
  have e : W4 m ρ c (Proc.devRef .tc main_arg15) = m ((c.tc : Thread nD τ).loc main_arg15) := W4_args m ρ c main_arg15 (by decide)
  unfold W5
  after_results
  rw [e]
  pointwise [args]

theorem v21_read (t : Fin 4) (ch : Fin 96) (h w : Fin 128) :
    (W8 m ρ c (Proc.devRef .tc main_v21) : Vec Ideal S1x4x96x128x128 .f32) (ix5 0 t ch h w)
      = (W7 m ρ c (Proc.devRef .tc main_v20) : Vec Ideal S4x96x128x128 .f32) (ix4 t ch h w) := by
  unfold W8
  after_results
  pointwise []

end Cert.KernelIdeal.Val.Host
-- ==== Proof.Chain.lean ====
module

public import proofs.«01_k».proof.Proof.Arrays0
public import proofs.«01_k».proof.Proof.Arrays1
public import proofs.«01_k».proof.Proof.Arrays2
public import proofs.«01_k».proof.Proof.Arrays3
public import proofs.«01_k».proof.Proof.Host

/-! The kernel program's four calls one after another: its result buffer holds the computation of its arguments. -/

@[expose] public section
set_option maxRecDepth 16384
noncomputable section

namespace Cert.KernelIdeal.Val.Chain
open Idealize.ShloMosaic Idealize.ShloMosaic.TcCoe Idealize.SL.Sem
open Cert.KernelIdeal Cert.KernelIdeal.Gen

open Cert.KernelIdeal.Val.Host

variable (m : (ℓ : Loc nD τ sig) → Buf (Elt Ideal) ℓ) (ρ : Dev nD → PrngReg) (c : Dev nD)

/-! ### Buffers nothing in between writes -/

theorem v6_at3 : W3 m ρ c (Proc.devRef .tc main_v6) = W1 m ρ c (Proc.devRef .tc main_v6) :=
  ((W3_of m ρ c main_v6 (by decide)).trans (W2_of m ρ c main_v6 (by decide)))

theorem v0_at5 : W5 m ρ c (Proc.devRef .tc main_v0) = W1 m ρ c (Proc.devRef .tc main_v0) :=
  ((((W5_of m ρ c main_v0 (by decide)).trans (W4_of m ρ c main_v0 (by decide))).trans (W3_of m ρ c main_v0 (by decide))).trans (W2_of m ρ c main_v0 (by decide)))

theorem v9_at5 : W5 m ρ c (Proc.devRef .tc main_v9) = W1 m ρ c (Proc.devRef .tc main_v9) :=
  ((((W5_of m ρ c main_v9 (by decide)).trans (W4_of m ρ c main_v9 (by decide))).trans (W3_of m ρ c main_v9 (by decide))).trans (W2_of m ρ c main_v9 (by decide)))

theorem v10_at5 : W5 m ρ c (Proc.devRef .tc main_v10) = W1 m ρ c (Proc.devRef .tc main_v10) :=
  ((((W5_of m ρ c main_v10 (by decide)).trans (W4_of m ρ c main_v10 (by decide))).trans (W3_of m ρ c main_v10 (by decide))).trans (W2_of m ρ c main_v10 (by decide)))

theorem v3_at5 : W5 m ρ c (Proc.devRef .tc main_v3) = W1 m ρ c (Proc.devRef .tc main_v3) :=
  ((((W5_of m ρ c main_v3 (by decide)).trans (W4_of m ρ c main_v3 (by decide))).trans (W3_of m ρ c main_v3 (by decide))).trans (W2_of m ρ c main_v3 (by decide)))

theorem v4_at5 : W5 m ρ c (Proc.devRef .tc main_v4) = W1 m ρ c (Proc.devRef .tc main_v4) :=
  ((((W5_of m ρ c main_v4 (by decide)).trans (W4_of m ρ c main_v4 (by decide))).trans (W3_of m ρ c main_v4 (by decide))).trans (W2_of m ρ c main_v4 (by decide)))

theorem v7_at5 : W5 m ρ c (Proc.devRef .tc main_v7) = W1 m ρ c (Proc.devRef .tc main_v7) :=
  ((((W5_of m ρ c main_v7 (by decide)).trans (W4_of m ρ c main_v7 (by decide))).trans (W3_of m ρ c main_v7 (by decide))).trans (W2_of m ρ c main_v7 (by decide)))

theorem v8_at5 : W5 m ρ c (Proc.devRef .tc main_v8) = W1 m ρ c (Proc.devRef .tc main_v8) :=
  ((((W5_of m ρ c main_v8 (by decide)).trans (W4_of m ρ c main_v8 (by decide))).trans (W3_of m ρ c main_v8 (by decide))).trans (W2_of m ρ c main_v8 (by decide)))

theorem v16_0_at5 : W5 m ρ c (Proc.devRef .tc main_v16_0) = W4 m ρ c (Proc.devRef .tc main_v16_0) :=
  (W5_of m ρ c main_v16_0 (by decide))

theorem v16_1_at5 : W5 m ρ c (Proc.devRef .tc main_v16_1) = W4 m ρ c (Proc.devRef .tc main_v16_1) :=
  (W5_of m ρ c main_v16_1 (by decide))

theorem v11_at6 : W6 m ρ c (Proc.devRef .tc main_v11) = W1 m ρ c (Proc.devRef .tc main_v11) :=
  (((((W6_of m ρ c main_v11 (by decide)).trans (W5_of m ρ c main_v11 (by decide))).trans (W4_of m ρ c main_v11 (by decide))).trans (W3_of m ρ c main_v11 (by decide))).trans (W2_of m ρ c main_v11 (by decide)))

theorem v12_at6 : W6 m ρ c (Proc.devRef .tc main_v12) = W1 m ρ c (Proc.devRef .tc main_v12) :=
  (((((W6_of m ρ c main_v12 (by decide)).trans (W5_of m ρ c main_v12 (by decide))).trans (W4_of m ρ c main_v12 (by decide))).trans (W3_of m ρ c main_v12 (by decide))).trans (W2_of m ρ c main_v12 (by decide)))

theorem v14_0_at3 : W3 m ρ c (Proc.devRef .tc main_v14_0) = W2 m ρ c (Proc.devRef .tc main_v14_0) :=
  (W3_of m ρ c main_v14_0 (by decide))

theorem v14_1_at3 : W3 m ρ c (Proc.devRef .tc main_v14_1) = W2 m ρ c (Proc.devRef .tc main_v14_1) :=
  (W3_of m ρ c main_v14_1 (by decide))

theorem v14_2_at3 : W3 m ρ c (Proc.devRef .tc main_v14_2) = W2 m ρ c (Proc.devRef .tc main_v14_2) :=
  (W3_of m ρ c main_v14_2 (by decide))

theorem v14_3_at3 : W3 m ρ c (Proc.devRef .tc main_v14_3) = W2 m ρ c (Proc.devRef .tc main_v14_3) :=
  (W3_of m ρ c main_v14_3 (by decide))

theorem v14_4_at3 : W3 m ρ c (Proc.devRef .tc main_v14_4) = W2 m ρ c (Proc.devRef .tc main_v14_4) :=
  (W3_of m ρ c main_v14_4 (by decide))

theorem v14_5_at3 : W3 m ρ c (Proc.devRef .tc main_v14_5) = W2 m ρ c (Proc.devRef .tc main_v14_5) :=
  (W3_of m ρ c main_v14_5 (by decide))

theorem v14_6_at3 : W3 m ρ c (Proc.devRef .tc main_v14_6) = W2 m ρ c (Proc.devRef .tc main_v14_6) :=
  (W3_of m ρ c main_v14_6 (by decide))

theorem qkv_args : qkvV (V1 m ρ) c = (args m c).all := by
  funext t j h w
  unfold qkvV qkvAll Whole.Args.all Whole.qkv
  have hx : (fun k => (V1 m ρ c main_v0 : Vec Ideal S4x96x128x128 .f32) (ix4 t k h w)) = fun k => (args m c).x t k h w :=
    funext fun k => v0_read m ρ c t k h w
  have hg : (fun k => (V1 m ρ c main_v1 : Vec Ideal S96x1 .f32) (ix2 k 0)) = (args m c).g1 := funext fun k => v1_read m ρ c k
  have hb : (fun k => (V1 m ρ c main_v2 : Vec Ideal S96x1 .f32) (ix2 k 0)) = (args m c).b1 := funext fun k => v2_read m ρ c k
  have hw : (fun j k => (V1 m ρ c main_v13 : Vec Ideal S288x96 .bf16) (ix2 j k)) = (args m c).wqkv :=
    funext fun j => funext fun k => v13_read m ρ c j k
  have hz : (fun j => (V1 m ρ c main_v5 : Vec Ideal S288x1 .f32) (ix2 j 0)) = (args m c).bqkv := funext fun k => v5_read m ρ c k
  rw [hx, hg, hb, hw, hz]

theorem v14_0_read (t : Fin 4) (ch : Fin 96) (h w : Fin 128) :
    (V3 m ρ c main_v14_0 : Vec Ideal S4x96x128x128 .bf16) (ix4 t ch h w) = (args m c).queries t ch h w :=
  (congrFun ((v14_0_at3 m ρ c).trans ((W2_arr m ρ c 5).trans (arr0_5 (V1 m ρ) c))) (ix4 t ch h w)).trans
    (congrFun (congrFun (congrFun (congrFun (qkv_args m ρ c) t) _) h) w)

theorem v14_1_read (t : Fin 4) (ch : Fin 96) (h w : Fin 128) :
    (V3 m ρ c main_v14_1 : Vec Ideal S4x96x128x128 .bf16) (ix4 t ch h w) = (args m c).keys t ch h w :=
  (congrFun ((v14_1_at3 m ρ c).trans ((W2_arr m ρ c 6).trans (arr0_6 (V1 m ρ) c))) (ix4 t ch h w)).trans
    (congrFun (congrFun (congrFun (congrFun (qkv_args m ρ c) t) _) h) w)

theorem v14_2_read (t : Fin 4) (ch : Fin 96) (h w : Fin 128) :
    (V3 m ρ c main_v14_2 : Vec Ideal S4x96x128x128 .bf16) (ix4 t ch h w) = (args m c).values t ch h w :=
  (congrFun ((v14_2_at3 m ρ c).trans ((W2_arr m ρ c 7).trans (arr0_7 (V1 m ρ) c))) (ix4 t ch h w)).trans
    (congrFun (congrFun (congrFun (congrFun (qkv_args m ρ c) t) _) h) w)

theorem v14_3_read (t : Fin 4) (i : Fin 8) (ch : Fin 96) (e : Fin 2) (w : Fin 128) :
    (V3 m ρ c main_v14_3 : Vec Ideal S4x8x96x2x128 .bf16) (ix5 t i ch e w)
      = (args m c).keys t ch ⟨i.val * 16 + (14 + e.val), by omega⟩ w :=
  (congrFun ((v14_3_at3 m ρ c).trans ((W2_arr m ρ c 8).trans (arr0_8 (V1 m ρ) c))) (ix5 t i ch e w)).trans
    (congrFun (congrFun (congrFun (congrFun (qkv_args m ρ c) t) _) _) w)

theorem v14_4_read (t : Fin 4) (i : Fin 8) (ch : Fin 96) (e : Fin 2) (w : Fin 128) :
    (V3 m ρ c main_v14_4 : Vec Ideal S4x8x96x2x128 .bf16) (ix5 t i ch e w)
      = (args m c).keys t ch ⟨i.val * 16 + (0 + e.val), by omega⟩ w :=
  (congrFun ((v14_4_at3 m ρ c).trans ((W2_arr m ρ c 9).trans (arr0_9 (V1 m ρ) c))) (ix5 t i ch e w)).trans
    (congrFun (congrFun (congrFun (congrFun (qkv_args m ρ c) t) _) _) w)

theorem v14_5_read (t : Fin 4) (i : Fin 8) (ch : Fin 96) (e : Fin 2) (w : Fin 128) :
    (V3 m ρ c main_v14_5 : Vec Ideal S4x8x96x2x128 .bf16) (ix5 t i ch e w)
      = (args m c).values t ch ⟨i.val * 16 + (14 + e.val), by omega⟩ w :=
  (congrFun ((v14_5_at3 m ρ c).trans ((W2_arr m ρ c 10).trans (arr0_10 (V1 m ρ) c))) (ix5 t i ch e w)).trans
    (congrFun (congrFun (congrFun (congrFun (qkv_args m ρ c) t) _) _) w)

theorem v14_6_read (t : Fin 4) (i : Fin 8) (ch : Fin 96) (e : Fin 2) (w : Fin 128) :
    (V3 m ρ c main_v14_6 : Vec Ideal S4x8x96x2x128 .bf16) (ix5 t i ch e w)
      = (args m c).values t ch ⟨i.val * 16 + (0 + e.val), by omega⟩ w :=
  (congrFun ((v14_6_at3 m ρ c).trans ((W2_arr m ρ c 11).trans (arr0_11 (V1 m ρ) c))) (ix5 t i ch e w)).trans
    (congrFun (congrFun (congrFun (congrFun (qkv_args m ρ c) t) _) _) w)

theorem reads1 : Call1.Reads (V3 m ρ) c (args m c).queries (args m c).keys (args m c).values (args m c).wproj (args m c).bproj where
  q := v14_0_read m ρ c
  k := v14_1_read m ρ c
  u := v14_2_read m ρ c
  kl := v14_3_read m ρ c
  kf := v14_4_read m ρ c
  ul := v14_5_read m ρ c
  uf := v14_6_read m ρ c
  p := v15_read m ρ c
  z := fun j => (congrFun (v6_at3 m ρ c) _).trans (v6_read m ρ c j)

theorem v16_0_read (t : Fin 4) (ch : Fin 96) (h w : Fin 128) :
    (V5 m ρ c main_v16_0 : Vec Ideal S4x96x128x128 .f32) (ix4 t ch h w) = (args m c).projected t ch h w :=
  congrFun ((v16_0_at5 m ρ c).trans ((W4_arr m ρ c 15).trans (Call1.arr15 (reads1 m ρ c)))) (ix4 t ch h w)

theorem v16_1_read (t : Fin 4) (i : Fin 8) (ch : Fin 96) :
    (V5 m ρ c main_v16_1 : Vec Ideal S4x8x96x1 .f32) (ix4 t i ch 0) = Whole.tileSum (args m c).projected t i ch :=
  congrFun ((v16_1_at5 m ρ c).trans ((W4_arr m ρ c 16).trans (Call1.arr16 (reads1 m ρ c)))) (ix4 t i ch 0)

theorem reads2 : Call2.Reads (V5 m ρ) c (args m c).x (args m c).projected (args m c).u1 (args m c).c1 (args m c).u2 (args m c).c2
    (args m c).g2 (args m c).b2 (args m c).wr1 (args m c).br1 (args m c).wr2 (args m c).br2 where
  x := fun t ch h w => (congrFun (v0_at5 m ρ c) _).trans (v0_read m ρ c t ch h w)
  y := v16_0_read m ρ c
  s := v16_1_read m ρ c
  w1 := fun j k => congrFun (W5_args m ρ c main_arg9 (by decide)) (ix2 j k)
  a1 := fun j => (congrFun (v9_at5 m ρ c) _).trans (v9_read m ρ c j)
  w2 := fun j k => congrFun (W5_args m ρ c main_arg11 (by decide)) (ix2 j k)
  a2 := fun j => (congrFun (v10_at5 m ρ c) _).trans (v10_read m ρ c j)
  g := fun j => (congrFun (v3_at5 m ρ c) _).trans (v3_read m ρ c j)
  b := fun j => (congrFun (v4_at5 m ρ c) _).trans (v4_read m ρ c j)
  m1 := v17_read m ρ c
  d1 := fun j => (congrFun (v7_at5 m ρ c) _).trans (v7_read m ρ c j)
  m2 := v18_read m ρ c
  d2 := fun j => (congrFun (v8_at5 m ρ c) _).trans (v8_read m ρ c j)

theorem v19_0_read (t : Fin 4) (ch : Fin 96) (h w : Fin 128) :
    (V6 m ρ c main_v19_0 : Vec Ideal S4x96x128x128 .f32) (ix4 t ch h w) = (args m c).blocked t ch h w :=
  congrFun ((W6_arr m ρ c 13).trans (Call2.arr13 (V := V5 m ρ) (reads2 m ρ c))) (ix4 t ch h w)

theorem v19_1_read (t : Fin 4) (i : Fin 8) (ch : Fin 96) :
    (V6 m ρ c main_v19_1 : Vec Ideal S4x8x96x1 .f32) (ix4 t i ch 0) = Whole.tileSum (args m c).blocked t i ch :=
  congrFun ((W6_arr m ρ c 14).trans (Call2.arr14 (V := V5 m ρ) (reads2 m ρ c))) (ix4 t i ch 0)

theorem reads3 : Call3.Reads (V6 m ρ) c (args m c).blocked (args m c).u3 (args m c).c3 (args m c).u4 (args m c).c4 where
  y := v19_0_read m ρ c
  s := v19_1_read m ρ c
  w1 := fun j k => congrFun (W6_args m ρ c main_arg17 (by decide)) (ix2 j k)
  a1 := fun j => (congrFun (v11_at6 m ρ c) _).trans (v11_read m ρ c j)
  w2 := fun j k => congrFun (W6_args m ρ c main_arg19 (by decide)) (ix2 j k)
  a2 := fun j => (congrFun (v12_at6 m ρ c) _).trans (v12_read m ρ c j)

/-- The kernel program's result buffer. -/
theorem result_read (t : Fin 4) (ch : Fin 96) (h w : Fin 128) :
    (W8 m ρ c (Proc.devRef .tc main_v21) : Vec Ideal S1x4x96x128x128 .f32) (ix5 0 t ch h w) = (args m c).result t ch h w :=
  (v21_read m ρ c t ch h w).trans (congrFun ((W7_arr m ρ c 6).trans (Call3.arr6 (V := V6 m ρ) (reads3 m ρ c))) (ix4 t ch h w))

end Cert.KernelIdeal.Val.Chain
-- ==== Proof.Launched.lean ====
module

public import proofs.«01_k».proof.Proof.Gen.KernelIdeal.Frame

/-! The kernel program's launch, keeping what its result buffer ends at. -/

@[expose] public section
set_option maxRecDepth 16384
noncomputable section

namespace Cert.KernelIdeal.Val.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every device's result buffer ends at the last boundary's contents, every argument as launched. -/
theorem run : θ_run defs (onTc (τ := τ) (main (F := F))) ⟨m, fun _ => 0, ρ⟩ (fun r => ∀ c : Dev nD,
      r.2.mem ((c.tc : Thread nD τ).loc main_v21) = W8 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v21 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c)⟩)

end Cert.KernelIdeal.Val.Launch
-- ==== Proof.RefQkv.lean ====
module

public import proofs.«01_k».proof.Proof.Whole
public import proofs.«01_k».proof.Proof.Gen.ReferenceIdeal.Run
public import Idealize.ShloMosaic.Lib.Pipeline.ValueKit

/-! The reference's first stages: the normalised channels of a pixel, and its queries, keys and values. -/

@[expose] public section
set_option maxRecDepth 16384
noncomputable section

namespace Cert.ReferenceIdeal.Val
open Idealize.ShloMosaic Idealize.ShloMosaic.TcCoe Idealize.SL.Sem
open Cert.ReferenceIdeal Cert.ReferenceIdeal.Value

variable (V0 : Valuation τ sig (Elt Ideal))

/-- The arguments, as functions. -/
def args : Whole.Args where
  x := fun t ch h w => (V0 (Proc.devRef .tc main_arg0) : Vec Ideal S1x4x96x128x128 .f32) (ix5 0 t ch h w)
  g1 := fun j => (V0 (Proc.devRef .tc main_arg1) : Vec Ideal S96 .f32) (ix1 j)
  b1 := fun j => (V0 (Proc.devRef .tc main_arg2) : Vec Ideal S96 .f32) (ix1 j)
  g2 := fun j => (V0 (Proc.devRef .tc main_arg3) : Vec Ideal S96 .f32) (ix1 j)
  b2 := fun j => (V0 (Proc.devRef .tc main_arg4) : Vec Ideal S96 .f32) (ix1 j)
  wqkv := fun j k => (V0 (Proc.devRef .tc main_arg5) : Vec Ideal S288x96 .f32) (ix2 j k)
  bqkv := fun j => (V0 (Proc.devRef .tc main_arg6) : Vec Ideal S288 .f32) (ix1 j)
  wproj := fun j k => (V0 (Proc.devRef .tc main_arg7) : Vec Ideal S96x96 .f32) (ix2 j k)
  bproj := fun j => (V0 (Proc.devRef .tc main_arg8) : Vec Ideal S96 .f32) (ix1 j)
  u1 := fun j k => (V0 (Proc.devRef .tc main_arg9) : Vec Ideal S12x96 .f32) (ix2 j k)
  c1 := fun j => (V0 (Proc.devRef .tc main_arg10) : Vec Ideal S12 .f32) (ix1 j)
  u2 := fun j k => (V0 (Proc.devRef .tc main_arg11) : Vec Ideal S96x12 .f32) (ix2 j k)
  c2 := fun j => (V0 (Proc.devRef .tc main_arg12) : Vec Ideal S96 .f32) (ix1 j)
  wr1 := fun j k => (V0 (Proc.devRef .tc main_arg13) : Vec Ideal S96x96 .f32) (ix2 j k)
  br1 := fun j => (V0 (Proc.devRef .tc main_arg14) : Vec Ideal S96 .f32) (ix1 j)
  wr2 := fun j k => (V0 (Proc.devRef .tc main_arg15) : Vec Ideal S96x96 .f32) (ix2 j k)
  br2 := fun j => (V0 (Proc.devRef .tc main_arg16) : Vec Ideal S96 .f32) (ix1 j)
  u3 := fun j k => (V0 (Proc.devRef .tc main_arg17) : Vec Ideal S12x96 .f32) (ix2 j k)
  c3 := fun j => (V0 (Proc.devRef .tc main_arg18) : Vec Ideal S12 .f32) (ix1 j)
  u4 := fun j k => (V0 (Proc.devRef .tc main_arg19) : Vec Ideal S96x12 .f32) (ix2 j k)
  c4 := fun j => (V0 (Proc.devRef .tc main_arg20) : Vec Ideal S96 .f32) (ix1 j)

theorem v0_read (t : Fin 4) (ch : Fin 96) (h w : Fin 128) :
    (res_main_v0 V0 : Vec Ideal S4x96x128x128 .f32) (ix4 t ch h w) = (args V0).x t ch h w := by
  pointwise [res_main_v0, args]

theorem v4_read (t : Fin 4) (h w : Fin 128) :
    (res_main_v4 V0 : Vec Ideal S4x1x128x128 .f32) (ix4 t 0 h w) = Layer.mean fun k => (args V0).x t k h w := by
  pointwise [res_main_v4, v0_read, Layer.mean]

theorem v6_read (t : Fin 4) (ch : Fin 96) (h w : Fin 128) :
    (res_main_v6 V0 : Vec Ideal S4x96x128x128 .f32) (ix4 t ch h w)
      = (args V0).x t ch h w - Layer.mean fun k => (args V0).x t k h w := by
  pointwise [res_main_v6, v0_read, v4_read]

theorem v29_read (t : Fin 4) (j : Fin 288) (h w : Fin 128) :
    (res_main_v29 V0 : Vec Ideal S4x288x128x128 .f32) (ix4 t j h w) = (args V0).all t j h w := by
  unfold Whole.Args.all Whole.qkv Layer.affine
  simp only [← Layer.norm_eq]
  pointwise [res_main_v29, v0_read, v4_read, v6_read, Layer.spread, args]

end Cert.ReferenceIdeal.Val
-- ==== Proof.RefCandidates.lean ====
module

public import proofs.«01_k».proof.Proof.RefQkv

/-! The reference's candidates: the keys and values of every pixel, shifted by lanes, by rows and by a frame. -/

@[expose] public section
set_option maxRecDepth 16384
noncomputable section

namespace Cert.ReferenceIdeal.Val
open Idealize.ShloMosaic Idealize.ShloMosaic.TcCoe Idealize.SL.Sem
open Cert.ReferenceIdeal Cert.ReferenceIdeal.Value

variable (V0 : Valuation τ sig (Elt Ideal))

/-- Two readings of an image at equal coordinates. -/
theorem same {X : Whole.Img 288} {j : Fin 288} {t t' : Fin 4} {h h' w w' : Fin 128} (et : t.val = t'.val) (eh : h.val = h'.val)
    (ew : w.val = w'.val) : X t j h w = X t' j h' w' := by
  obtain rfl := Fin.ext et
  obtain rfl := Fin.ext eh
  obtain rfl := Fin.ext ew
  rfl

theorem v32_read (o : Fin 1) (t : Fin 4) (ch : Fin 192) (h w : Fin 128) :
    (res_main_v32 V0 : Vec Ideal S1x4x192x128x128 .f32) (ix5 o t ch h w) = (args V0).all t ⟨96 + ch.val, by omega⟩ h w := by
  obtain rfl : o = 0 := Subsingleton.elim _ _
  pointwise [res_main_v32, v29_read]

theorem v35_read (o : Fin 1) (t : Fin 4) (ch : Fin 192) (h : Fin 128) (x : Fin 132) :
    (res_main_v35 V0 : Vec Ideal S1x4x192x128x132 .f32) (ix5 o t ch h x)
      = (args V0).all t ⟨96 + ch.val, by omega⟩ h ⟨(x.val + 126) % 128, Nat.mod_lt _ (by decide)⟩ := by
  obtain rfl : o = 0 := Subsingleton.elim _ _
  pointwise [res_main_v35, v32_read]
  split_ifs <;> refine same rfl rfl ?_ <;> dsimp only <;> omega

theorem v41_read (d : Fin 5) (t : Fin 4) (ch : Fin 192) (h w : Fin 128) :
    (res_main_v41 V0 : Vec Ideal S5x4x192x128x128 .f32) (ix5 d t ch h w)
      = (args V0).all t ⟨96 + ch.val, by omega⟩ h ⟨(w.val + 130 - d.val) % 128, Nat.mod_lt _ (by decide)⟩ := by
  pointwise [res_main_v41]
  simp only [v35_read]
  split_ifs <;> refine same rfl rfl ?_ <;> dsimp only <;> omega

theorem v44_read (d : Fin 5) (t : Fin 4) (ch : Fin 192) (y : Fin 132) (w : Fin 128) :
    (res_main_v44 V0 : Vec Ideal S5x4x192x132x128 .f32) (ix5 d t ch y w)
      = (args V0).all t ⟨96 + ch.val, by omega⟩ ⟨(y.val + 126) % 128, Nat.mod_lt _ (by decide)⟩
          ⟨(w.val + 130 - d.val) % 128, Nat.mod_lt _ (by decide)⟩ := by
  pointwise [res_main_v44]
  simp only [v41_read]
  split_ifs <;> refine same rfl ?_ rfl <;> dsimp only <;> omega

theorem v50_read (n : Fin 25) (t : Fin 4) (ch : Fin 192) (h w : Fin 128) :
    (res_main_v50 V0 : Vec Ideal S25x4x192x128x128 .f32) (ix5 n t ch h w)
      = (args V0).all t ⟨96 + ch.val, by omega⟩ ⟨(h.val + 130 - n.val / 5) % 128, Nat.mod_lt _ (by decide)⟩
          ⟨(w.val + 130 - n.val % 5) % 128, Nat.mod_lt _ (by decide)⟩ := by
  pointwise [res_main_v50]
  simp only [v44_read]
  split_ifs <;> refine same rfl ?_ ?_ <;> dsimp only <;> omega

theorem v54_read (n : Fin 50) (t : Fin 4) (ch : Fin 192) (h w : Fin 128) :
    (res_main_v54 V0 : Vec Ideal S50x4x192x128x128 .f32) (ix5 n t ch h w)
      = (args V0).all (Whole.frameAt n t) ⟨96 + ch.val, by omega⟩ (Whole.rowAt n h) (Whole.laneAt n w) := by
  pointwise [res_main_v54]
  simp only [v50_read]
  split_ifs <;> refine same ?_ ?_ ?_ <;> simp only [Whole.frameAt, Whole.rowAt, Whole.laneAt] <;> omega

end Cert.ReferenceIdeal.Val
-- ==== Proof.RefScores.lean ====
module

public import proofs.«01_k».proof.Proof.RefCandidates

/-! The reference's scores, and the ten greatest of each pixel. -/

@[expose] public section
set_option maxRecDepth 16384
noncomputable section

namespace Cert.ReferenceIdeal.Val
open Idealize.ShloMosaic Idealize.ShloMosaic.TcCoe Idealize.SL.Sem
open Cert.ReferenceIdeal Cert.ReferenceIdeal.Value

variable (V0 : Valuation τ sig (Elt Ideal))

theorem sum_mul_unit {ι : Type} (S : Finset ι) (f : ι → EReal) :
    (∑ i ∈ S, f i) * Whole.unitScale = ∑ i ∈ S, f i * Whole.unitScale := by
  have hs : 0 ≤ Whole.unitScale ∧ Whole.unitScale ≠ ⊤ := by
    constructor
    · simp [Ideal.ofBits, Ideal.ieee, -EReal.coe_mul]
    · simp [Ideal.ofBits, Ideal.ieee, -EReal.coe_mul]
  classical
  induction S using Finset.induction_on with
  | empty => simp
  | insert a S ha ih => rw [Finset.sum_insert ha, Finset.sum_insert ha, EReal.right_distrib_of_nonneg_of_ne_top hs.1 hs.2, ih]

/-- The scores of a pixel's candidates. -/
abbrev scores (t : Fin 4) (h w : Fin 128) : Fin 50 → EReal := Whole.score (args V0).queries (args V0).keys t h w

theorem v62_read (t : Fin 4) (h w : Fin 128) (n : Fin 50) :
    (res_main_v62 V0 : Vec Ideal S4x128x128x50 .f32) (ix4 t h w n) = scores V0 t h w n := by
  have e : scores V0 t h w n = (∑ ch : Fin 96, (args V0).queries t ch h w * (args V0).keys (Whole.frameAt n t) ch (Whole.rowAt n h) (Whole.laneAt n w))
      * Whole.unitScale := by
    rw [sum_mul_unit]
    exact Finset.sum_congr rfl fun ch _ => mul_right_comm _ _ _
  rw [e]
  pointwise [res_main_v62, v54_read, v29_read, Whole.Args.queries, Whole.Args.keys]

/-! ### The ten greatest -/

variable (x : Vec Ideal S4x128x128x50 .f32) (hs : S4x128x128x50.Slices (fun _ => 0) S4x128x128x10)

theorem along_last (t : Fin 4) (h w : Fin 128) (n k : Fin 50) :
    Shape.Idx.along (s := S4x128x128x50) (ix4 t h w n) 3 k = ix4 t h w k := by
  funext a
  fin_cases a <;> rfl

theorem front_read (α : Type) (y : S4x128x128x50.Idx → α) (t : Fin 4) (h w : Fin 128) (i : Fin 10) :
    extractStridedSlice S4x128x128x10 (fun _ => 0) y hs (ix4 t h w i) = y (ix4 t h w (Fin.castLE (by decide) i)) := by
  pointwise []
  rfl

/-- The order the comparison sorts a pixel's scores in. -/
theorem order_read (t : Fin 4) (h w : Fin 128) (n k : Fin 50) :
    sortedFrom (fun k k' : Fin 50 => (FloatOps.cmpfTotal (F := Ideal) (φ := .f32) .gt
        (x (Shape.Idx.along (s := S4x128x128x50) (ix4 t h w n) 3 k)) (x (Shape.Idx.along (s := S4x128x128x50) (ix4 t h w n) 3 k')) == 1#1)) k
      = TopK.order (fun n => (x (ix4 t h w n) : EReal)) k := by
  refine congrArg (fun b => sortedFrom b k) (funext fun a => funext fun b => ?_)
  rw [along_last, along_last]
  have hb : ∀ p : Bool, (BitVec.ofBool p == 1#1) = p := by decide
  exact hb _

theorem topK_values (t : Fin 4) (h w : Fin 128) (i : Fin 10) :
    (Host.topK S4x128x128x10 3 (FloatOps.cmpfTotal (F := Ideal) (φ := .f32) .gt) x hs).1 (ix4 t h w i)
      = x (ix4 t h w (TopK.place (fun n => (x (ix4 t h w n) : EReal)) i)) := by
  unfold Host.topK
  dsimp only
  refine (front_read hs _ _ t h w i).trans ?_
  unfold Host.sort2
  rw [dif_pos (by decide)]
  refine (congrArg x (along_last t h w _ _)).trans ?_
  exact congrArg (fun k => x (ix4 t h w k)) (order_read x t h w _ _)

theorem topK_places (t : Fin 4) (h w : Fin 128) (i : Fin 10) :
    (Host.topK S4x128x128x10 3 (FloatOps.cmpfTotal (F := Ideal) (φ := .f32) .gt) x hs).2 (ix4 t h w i)
      = BitVec.ofNat 32 (TopK.place (fun n => (x (ix4 t h w n) : EReal)) i).val := by
  unfold Host.topK
  dsimp only
  refine (front_read hs _ _ t h w i).trans ?_
  unfold Host.sort2
  rw [dif_pos (by decide)]
  have hi : ∀ k : Fin 50, (if hd : 3 < S4x128x128x50.rank then iotaInDim S4x128x128x50 32 ⟨3, hd⟩ (ix4 t h w k) else 0#32) = BitVec.ofNat 32 k.val :=
    fun k => rfl
  dsimp only
  refine (congrArg (fun i => if hd : 3 < S4x128x128x50.rank then iotaInDim S4x128x128x50 32 ⟨3, hd⟩ i else 0#32) (along_last t h w _ _)).trans ?_
  refine (hi _).trans ?_
  exact congrArg (fun k : Fin 50 => BitVec.ofNat 32 k.val) (order_read x t h w (Fin.castLE (by decide) i) (Fin.castLE (by decide) i))

theorem topK_values_of (d : Fin 50 → EReal) (t : Fin 4) (h w : Fin 128) (hd : ∀ n, x (ix4 t h w n) = d n) (i : Fin 10) :
    (Host.topK S4x128x128x10 3 (FloatOps.cmpfTotal (F := Ideal) (φ := .f32) .gt) x hs).1 (ix4 t h w i) = d (TopK.place d i) := by
  obtain rfl : (fun n => (x (ix4 t h w n) : EReal)) = d := funext hd
  exact topK_values x hs t h w i

theorem topK_places_of (d : Fin 50 → EReal) (t : Fin 4) (h w : Fin 128) (hd : ∀ n, x (ix4 t h w n) = d n) (i : Fin 10) :
    (Host.topK S4x128x128x10 3 (FloatOps.cmpfTotal (F := Ideal) (φ := .f32) .gt) x hs).2 (ix4 t h w i)
      = BitVec.ofNat 32 (TopK.place d i).val := by
  obtain rfl : (fun n => (x (ix4 t h w n) : EReal)) = d := funext hd
  exact topK_places x hs t h w i

theorem values_read (t : Fin 4) (h w : Fin 128) (i : Fin 10) :
    (res_main_values V0 : Vec Ideal S4x128x128x10 .f32) (ix4 t h w i) = scores V0 t h w (TopK.place (scores V0 t h w) i) := by
  have e := v62_read V0 t h w
  unfold res_main_values
  generalize (res_main_v62 V0 : Vec Ideal S4x128x128x50 .f32) = x at e ⊢
  exact topK_values_of x _ (scores V0 t h w) t h w e i

end Cert.ReferenceIdeal.Val
-- ==== Proof.RefAttend.lean ====
module

public import proofs.«01_k».proof.Proof.RefScores

/-! The reference's weights, and the projected weighted sums of the candidates' values. -/

@[expose] public section
set_option maxRecDepth 16384
noncomputable section

namespace Cert.ReferenceIdeal.Val
open Idealize.ShloMosaic Idealize.ShloMosaic.TcCoe Idealize.SL.Sem
open Cert.ReferenceIdeal Cert.ReferenceIdeal.Gen Cert.ReferenceIdeal.Value

variable (V0 : Valuation τ sig (Elt Ideal))

/-- The exponentials of the scores less their greatest. -/
theorem exp_read (x : FVec Ideal S4x128x128x10 .f32) (t : Fin 4) (h w : Fin 128) (i : Fin 10) :
    (Host.exp (subf x (broadcastInDim S4x128x128x10 ![0, 1, 2, 3] bcast_S4x128x128x1_S4x128x128x10_0_1_2_3 (broadcastInDim S4x128x128x1 ![0, 1, 2] bcast_S4x128x128_S4x128x128x1_0_1_2 (Host.reduce FloatOps.maximumf x (constant S_ .f32 0xFF800000#32) reducesTo_S4x128x128x10_S4x128x128_d3 h_S_))))) (ix4 t h w i)
      = Ideal.exp (HSub.hSub (α := EReal) (β := EReal) (x (ix4 t h w i))
          (Finset.univ.fold max (Ideal.ofBits .f32 0xFF800000#32) fun k : Fin 10 => (x (ix4 t h w k) : EReal))) := by
  pointwise []

/-- Each candidate's share of the kept exponentials. -/
theorem weights_read (ex : FVec Ideal S4x128x128x10 .f32) (idx : IVec S4x128x128x10 32) (t : Fin 4) (h w : Fin 128) (n : Fin 50) :
    (Host.divf (Host.reduceAdd (mulf (broadcastInDim S4x128x128x10x50 ![0, 1, 2, 3, 4] bcast_S4x128x128x10x1_S4x128x128x10x50_0_1_2_3_4 (broadcastInDim S4x128x128x10x1 ![0, 1, 2, 3] bcast_S4x128x128x10_S4x128x128x10x1_0_1_2_3 ex)) (uitofp .f32 (cmpi .eq (broadcastInDim S4x128x128x10x50 ![0, 1, 2, 3, 4] bcast_S4x128x128x10x1_S4x128x128x10x50_0_1_2_3_4 (broadcastInDim S4x128x128x10x1 ![0, 1, 2, 3] bcast_S4x128x128x10_S4x128x128x10x1_0_1_2_3 idx)) (broadcastInDim S4x128x128x10x50 ![0, 1, 2, 3, 4] bcast_S1x1x1x1x50_S4x128x128x10x50_0_1_2_3_4 (broadcastInDim S1x1x1x1x50 ![4] bcast_S50_S1x1x1x1x50_4 (iotaInDim S50 32 0)))))) (constant S_ .f32 0x00000000#32) reducesTo_S4x128x128x10x50_S4x128x128x50_d3 h_S_) (broadcastInDim S4x128x128x50 ![0, 1, 2, 3] bcast_S4x128x128x1_S4x128x128x50_0_1_2_3 (broadcastInDim S4x128x128x1 ![0, 1, 2] bcast_S4x128x128_S4x128x128x1_0_1_2 (Host.reduceAdd ex (constant S_ .f32 0x00000000#32) reducesTo_S4x128x128x10_S4x128x128_d3 h_S_)))) (ix4 t h w n)
      = Ideal.div (∑ i : Fin 10, HMul.hMul (α := EReal) (β := EReal) (ex (ix4 t h w i)) (if idx (ix4 t h w i) = BitVec.ofNat 32 n.val then 1 else 0))
          (∑ i : Fin 10, (ex (ix4 t h w i) : EReal)) := by
  have e (a b : BitVec 32) : FloatOps.uitofp (F := Ideal) .f32 (IntOp.cmpi .eq a b) = (if a = b then (1 : EReal) else 0) := by
    show (((BitVec.ofBool (a == b)).toNat : ℝ) : EReal) = _
    by_cases h : a = b <;> simp [h]
  refine Eq.trans (b := Ideal.div (∑ i : Fin 10, HMul.hMul (α := EReal) (β := EReal) (ex (ix4 t h w i))
    (FloatOps.uitofp (F := Ideal) .f32 (IntOp.cmpi .eq (idx (ix4 t h w i)) (BitVec.ofNat 32 n.val)))) (∑ i : Fin 10, (ex (ix4 t h w i) : EReal))) ?_ ?_
  · pointwise []
  · simp only [e]

/-- The weighted sums of the candidates' values, projected. -/
theorem projected_read (wt : FVec Ideal S4x128x128x50 .f32) (kv : FVec Ideal S50x4x192x128x128 .f32) (W : FVec Ideal S96x96 .f32) (b : FVec Ideal S96 .f32)
    (t : Fin 4) (o : Fin 96) (h w : Fin 128) :
    (addf (transpose S4x96x128x128 [1, 0, 2, 3] (Host.dotGeneral dot_S96x96_S4x96x128x128_S96x4x128x128_1_1_0_023_n_n none W (Host.reduceAdd (mulf (broadcastInDim S50x4x96x128x128 ![0, 1, 2, 3, 4] bcast_S50x4x1x128x128_S50x4x96x128x128_0_1_2_3_4 (broadcastInDim S50x4x1x128x128 ![0, 1, 3, 4] bcast_S50x4x128x128_S50x4x1x128x128_0_1_3_4 (transpose S50x4x128x128 [3, 0, 1, 2] wt transposes_S4x128x128x50_S50x4x128x128_3_0_1_2))) (extractStridedSlice S50x4x96x128x128 ![0, 0, 96, 0, 0] kv slices_S50x4x192x128x128_S50x4x96x128x128_0_0_96_0_0)) (constant S_ .f32 0x00000000#32) reducesTo_S50x4x96x128x128_S4x96x128x128_d0 h_S_)) transposes_S96x4x128x128_S4x96x128x128_1_0_2_3) (broadcastInDim S4x96x128x128 ![0, 1, 2, 3] bcast_S1x96x1x1_S4x96x128x128_0_1_2_3 (broadcastInDim S1x96x1x1 ![1] bcast_S96_S1x96x1x1_1 b))) (ix4 t o h w)
      = Layer.affine (fun j k => W (ix2 j k)) (fun j => b (ix1 j))
          (fun ch => ∑ n : Fin 50, HMul.hMul (α := EReal) (β := EReal) (wt (ix4 t h w n)) (kv (ix5 n t ⟨96 + ch.val, by omega⟩ h w))) o := by
  pointwise [Layer.affine]

/-- A kept candidate's weight before the weights are made to sum to one. -/
def kept (t : Fin 4) (h w : Fin 128) (i : Fin 10) : EReal :=
  Ideal.exp (scores V0 t h w (TopK.place (scores V0 t h w) i) - TopK.top (scores V0 t h w))

theorem bottom_eq : Ideal.ofBits .f32 0xFF800000#32 = (⊥ : EReal) := by simp [Ideal.ofBits, Ideal.ieee]

theorem top_fold (d : Fin 50 → EReal) : (Finset.univ.fold max (⊥ : EReal) fun k : Fin 10 => d (TopK.place d k)) = TopK.top d := by
  rw [← TopK.top_eq_kept]
  generalize TopK.place d = p
  rfl

theorem v67_read (t : Fin 4) (h w : Fin 128) (i : Fin 10) :
    (res_main_v67 V0 : Vec Ideal S4x128x128x10 .f32) (ix4 t h w i) = kept V0 t h w i := by
  unfold res_main_v67
  refine (exp_read (res_main_values V0) t h w i).trans ?_
  unfold kept
  have e := values_read V0 t h w
  generalize (res_main_values V0 : Vec Ideal S4x128x128x10 .f32) = x at e ⊢
  generalize scores V0 t h w = d at e ⊢
  rw [bottom_eq, ← top_fold]
  refine congrArg Ideal.exp (congrArg₂ (HSub.hSub (α := EReal) (β := EReal)) (e i) ?_)
  exact congrArg (Finset.univ.fold max (⊥ : EReal)) (funext fun k => e k)

theorem code_eq (a b : Fin 50) : (BitVec.ofNat 32 a.val = BitVec.ofNat 32 b.val) = (a = b) := by
  refine propext ⟨fun h => Fin.ext ?_, fun h => by rw [h]⟩
  have := congrArg BitVec.toNat h
  simp only [BitVec.toNat_ofNat] at this
  omega

/-- The shares of any exponentials and places that read as the scores' do. -/
theorem share_read (ex : Fin 10 → EReal) (idx : Fin 10 → BitVec 32) (d : Fin 50 → EReal)
    (hex : ∀ i, ex i = Ideal.exp (d (TopK.place d i) - TopK.top d)) (hidx : ∀ i, idx i = BitVec.ofNat 32 (TopK.place d i).val) (n : Fin 50) :
    Ideal.div (∑ i, ex i * (if idx i = BitVec.ofNat 32 n.val then 1 else 0)) (∑ i, ex i) = TopK.share d n := by
  rw [TopK.share_eq]
  simp only [hex, hidx, code_eq]

theorem v93_read (t : Fin 4) (o : Fin 96) (h w : Fin 128) :
    (res_main_v93 V0 : Vec Ideal S4x96x128x128 .f32) (ix4 t o h w) = (args V0).projected t o h w := by
  unfold res_main_v93
  refine (projected_read _ (res_main_v54 V0) _ _ t o h w).trans ?_
  refine congrArg (fun f => Layer.affine (args V0).wproj (args V0).bproj f o) (funext fun ch => Finset.sum_congr rfl fun n _ => ?_)
  refine congrArg₂ (HMul.hMul (α := EReal) (β := EReal)) ?_ ?_
  · refine (weights_read (res_main_v67 V0) _ t h w n).trans ?_
    exact share_read _ _ (scores V0 t h w) (v67_read V0 t h w) (topK_places_of (res_main_v62 V0) _ (scores V0 t h w) t h w (v62_read V0 t h w)) n
  · refine (v54_read V0 n t _ h w).trans ?_
    refine congrArg (fun j => (args V0).all (Whole.frameAt n t) j (Whole.rowAt n h) (Whole.laneAt n w)) (Fin.ext ?_)
    show 96 + (96 + ch.val) = 192 + ch.val
    omega

end Cert.ReferenceIdeal.Val
-- ==== Proof.RefFuse.lean ====
module

public import proofs.«01_k».proof.Proof.RefAttend

/-! The reference's channel gates, its second normalisation, and its residual block. -/

@[expose] public section
set_option maxRecDepth 16384
noncomputable section

namespace Cert.ReferenceIdeal.Val
open Idealize.ShloMosaic Idealize.ShloMosaic.TcCoe Idealize.SL.Sem
open Cert.ReferenceIdeal Cert.ReferenceIdeal.Gen Cert.ReferenceIdeal.Value

variable (V0 : Valuation τ sig (Elt Ideal))

/-- An array over frames, channels, rows and lanes, read as a function. -/
def img (X : FVec Ideal S4x96x128x128 .f32) : Whole.Img 96 := fun t c h w => X (ix4 t c h w)

/-- A channel's mean over the image. -/
theorem pool_read (X : FVec Ideal S4x96x128x128 .f32) (t : Fin 4) (k : Fin 96) :
    (Host.divf (Host.reduceAdd X (constant S_ .f32 0x00000000#32) reducesTo_S4x96x128x128_S4x96_d2_3 h_S_) (broadcastInDim S4x96 ![] bcast_S_S4x96 (constant S_ .f32 0x46800000#32))) (ix2 t k) = Ideal.div (∑ h : Fin 128, ∑ w : Fin 128, (X (ix4 t k h w) : EReal)) (Ideal.ofBits .f32 0x46800000#32) := by
  pointwise []

/-- An image times the channel gate of its averages. -/
theorem gate_read (X : FVec Ideal S4x96x128x128 .f32) (p : FVec Ideal S4x96 .f32) (W1 : FVec Ideal S12x96 .f32) (b1 : FVec Ideal S12 .f32)
    (W2 : FVec Ideal S96x12 .f32) (b2 : FVec Ideal S96 .f32) (t : Fin 4) (c : Fin 96) (h w : Fin 128) :
    (mulf X (broadcastInDim S4x96x128x128 ![0, 1, 2, 3] bcast_S4x96x1x1_S4x96x128x128_0_1_2_3 (broadcastInDim S4x96x1x1 ![0, 1] bcast_S4x96_S4x96x1x1_0_1 (Host.divf (broadcastInDim S4x96 ![] bcast_S_S4x96 (constant S_ .f32 0x3F800000#32)) (addf (broadcastInDim S4x96 ![] bcast_S_S4x96 (constant S_ .f32 0x3F800000#32)) (Host.exp (Host.negf (addf (Host.dotGeneral dot_S4x12_S96x12_S4x96_1_1_0_0_n_n none (maximumf (addf (Host.dotGeneral dot_S4x96_S12x96_S4x12_1_1_0_0_n_n none p W1) (broadcastInDim S4x12 ![0, 1] bcast_S1x12_S4x12_0_1 (broadcastInDim S1x12 ![1] bcast_S12_S1x12_1 b1))) (broadcastInDim S4x12 ![] bcast_S_S4x12 (constant S_ .f32 0x00000000#32))) W2) (broadcastInDim S4x96 ![0, 1] bcast_S1x96_S4x96_0_1 (broadcastInDim S1x96 ![1] bcast_S96_S1x96_1 b2)))))))))) (ix4 t c h w)
      = HMul.hMul (α := EReal) (β := EReal) (X (ix4 t c h w)) (Layer.gate (fun j k => W1 (ix2 j k)) (fun j => b1 (ix1 j)) (fun j k => W2 (ix2 j k)) (fun j => b2 (ix1 j)) (fun k => p (ix2 t k)) c) := by
  unfold Layer.gate Layer.affine Ideal.logistic
  pointwise []
  refine congrArg (fun e : EReal => HMul.hMul (α := EReal) (β := EReal) (X (ix4 t c h w)) (Ideal.div 1 (1 + Ideal.exp (-(HAdd.hAdd (α := EReal) (β := EReal) e (b2 (ix1 c))))))) (Finset.sum_congr rfl fun x _ => (mul_comm (G := EReal) _ _).trans ?_)
  exact congrArg (fun q : EReal => HMul.hMul (α := EReal) (β := EReal) (W2 (ix2 c x)) (max (HAdd.hAdd (α := EReal) (β := EReal) q (b1 (ix1 x))) 0)) (Finset.sum_congr rfl fun k _ => mul_comm (G := EReal) _ _)

/-- The residual block of a pixel's channels. -/
theorem block_read (X : FVec Ideal S4x96x128x128 .f32) (W1 : FVec Ideal S96x96 .f32) (b1 : FVec Ideal S96 .f32)
    (W2 : FVec Ideal S96x96 .f32) (b2 : FVec Ideal S96 .f32) (t : Fin 4) (c : Fin 96) (h w : Fin 128) :
    (addf X (addf (transpose S4x96x128x128 [1, 0, 2, 3] (Host.dotGeneral dot_S96x96_S4x96x128x128_S96x4x128x128_1_1_0_023_n_n none W2 (maximumf (addf (transpose S4x96x128x128 [1, 0, 2, 3] (Host.dotGeneral dot_S96x96_S4x96x128x128_S96x4x128x128_1_1_0_023_n_n none W1 X) transposes_S96x4x128x128_S4x96x128x128_1_0_2_3) (broadcastInDim S4x96x128x128 ![0, 1, 2, 3] bcast_S1x96x1x1_S4x96x128x128_0_1_2_3 (broadcastInDim S1x96x1x1 ![1] bcast_S96_S1x96x1x1_1 b1))) (broadcastInDim S4x96x128x128 ![] bcast_S_S4x96x128x128 (constant S_ .f32 0x00000000#32)))) transposes_S96x4x128x128_S4x96x128x128_1_0_2_3) (broadcastInDim S4x96x128x128 ![0, 1, 2, 3] bcast_S1x96x1x1_S4x96x128x128_0_1_2_3 (broadcastInDim S1x96x1x1 ![1] bcast_S96_S1x96x1x1_1 b2)))) (ix4 t c h w)
      = Layer.block (fun j k => W1 (ix2 j k)) (fun j => b1 (ix1 j)) (fun j k => W2 (ix2 j k)) (fun j => b2 (ix1 j)) (fun k => X (ix4 t k h w)) c := by
  unfold Layer.block Layer.affine
  pointwise []

theorem rows_eq (f : Fin 128 → EReal) : ∑ h, f h = ∑ i : Fin 8, ∑ r : Fin 16, f ⟨i.val * 16 + r.val, by omega⟩ := by
  rw [← Fintype.sum_prod_type']
  refine (Equiv.sum_comp (finProdFinEquiv (m := 8) (n := 16)) f).symm.trans (Finset.sum_congr rfl fun p _ => congrArg f (Fin.ext ?_))
  show p.2.val + 16 * p.1.val = p.1.val * 16 + p.2.val
  omega

theorem pixels_eq : Ideal.ofBits .f32 0x46800000#32 = ((16384 : ℝ) : EReal) := by
  simp [Ideal.ofBits, Ideal.ieee, -EReal.coe_mul]
  norm_num

theorem part_eq : Ideal.ofBits .f32 0x38800000#32 = (((16384 : ℝ)⁻¹ : ℝ) : EReal) := by
  simp [Ideal.ofBits, Ideal.ieee, -EReal.coe_mul]
  norm_num

/-- Division by the number of pixels is multiplication by its reciprocal, and the rows may be summed tile by tile. -/
theorem average_eq (X : Whole.Img 96) (t : Fin 4) (k : Fin 96) :
    Ideal.div (∑ h, ∑ w, X t k h w) (Ideal.ofBits .f32 0x46800000#32) = Whole.average X t k := by
  unfold Whole.average Whole.tileSum
  rw [pixels_eq, part_eq, rows_eq, Ideal.div, if_neg (by norm_num), EReal.coe_inv]

/-- The reference's channel gate of an image. -/
def gatedOf (X : FVec Ideal S4x96x128x128 .f32) (W1 : FVec Ideal S12x96 .f32) (b1 : FVec Ideal S12 .f32)
    (W2 : FVec Ideal S96x12 .f32) (b2 : FVec Ideal S96 .f32) : FVec Ideal S4x96x128x128 .f32 :=
  (mulf X (broadcastInDim S4x96x128x128 ![0, 1, 2, 3] bcast_S4x96x1x1_S4x96x128x128_0_1_2_3 (broadcastInDim S4x96x1x1 ![0, 1] bcast_S4x96_S4x96x1x1_0_1 (Host.divf (broadcastInDim S4x96 ![] bcast_S_S4x96 (constant S_ .f32 0x3F800000#32)) (addf (broadcastInDim S4x96 ![] bcast_S_S4x96 (constant S_ .f32 0x3F800000#32)) (Host.exp (Host.negf (addf (Host.dotGeneral dot_S4x12_S96x12_S4x96_1_1_0_0_n_n none (maximumf (addf (Host.dotGeneral dot_S4x96_S12x96_S4x12_1_1_0_0_n_n none (Host.divf (Host.reduceAdd X (constant S_ .f32 0x00000000#32) reducesTo_S4x96x128x128_S4x96_d2_3 h_S_) (broadcastInDim S4x96 ![] bcast_S_S4x96 (constant S_ .f32 0x46800000#32))) W1) (broadcastInDim S4x12 ![0, 1] bcast_S1x12_S4x12_0_1 (broadcastInDim S1x12 ![1] bcast_S12_S1x12_1 b1))) (broadcastInDim S4x12 ![] bcast_S_S4x12 (constant S_ .f32 0x00000000#32))) W2) (broadcastInDim S4x96 ![0, 1] bcast_S1x96_S4x96_0_1 (broadcastInDim S1x96 ![1] bcast_S96_S1x96_1 b2))))))))))

/-- An image times its channel gate. -/
theorem gated_read (X : FVec Ideal S4x96x128x128 .f32) (W1 : FVec Ideal S12x96 .f32) (b1 : FVec Ideal S12 .f32)
    (W2 : FVec Ideal S96x12 .f32) (b2 : FVec Ideal S96 .f32) (t : Fin 4) (c : Fin 96) (h w : Fin 128) :
    gatedOf X W1 b1 W2 b2 (ix4 t c h w)
      = Whole.gated (fun j k => W1 (ix2 j k)) (fun j => b1 (ix1 j)) (fun j k => W2 (ix2 j k)) (fun j => b2 (ix1 j)) (img X) t c h w := by
  refine (gate_read X _ W1 b1 W2 b2 t c h w).trans ?_
  unfold Whole.gated Whole.gate
  refine congrArg₂ (HMul.hMul (α := EReal) (β := EReal)) rfl ?_
  refine congrArg (fun p => Layer.gate _ _ _ _ p c) (funext fun k => ?_)
  exact (pool_read X t k).trans (average_eq (img X) t k)

theorem img_eq (X : FVec Ideal S4x96x128x128 .f32) (Y : Whole.Img 96) (e : ∀ t c h w, X (ix4 t c h w) = Y t c h w) : img X = Y := by
  funext t c h w; exact e t c h w

/-- One image plus another. -/
theorem sum_read (X Y : FVec Ideal S4x96x128x128 .f32) (i : S4x96x128x128.Idx) :
    (addf X Y) i = HAdd.hAdd (α := EReal) (β := EReal) (X i) (Y i) := rfl

theorem v116_read (t : Fin 4) (c : Fin 96) (h w : Fin 128) :
    (res_main_v116 V0 : Vec Ideal S4x96x128x128 .f32) (ix4 t c h w) = (args V0).joined t c h w := by
  unfold res_main_v116
  refine (sum_read (res_main_v0 V0) _ (ix4 t c h w)).trans (congrArg₂ (HAdd.hAdd (α := EReal) (β := EReal)) (v0_read V0 t c h w) ?_)
  refine (gated_read (res_main_v93 V0) _ _ _ _ t c h w).trans ?_
  rw [img_eq _ _ (v93_read V0)]
  rfl

theorem v120_read (t : Fin 4) (h w : Fin 128) :
    (res_main_v120 V0 : Vec Ideal S4x1x128x128 .f32) (ix4 t 0 h w) = Layer.mean fun k => (args V0).joined t k h w := by
  pointwise [res_main_v120, v116_read, Layer.mean]

theorem v122_read (t : Fin 4) (c : Fin 96) (h w : Fin 128) :
    (res_main_v122 V0 : Vec Ideal S4x96x128x128 .f32) (ix4 t c h w)
      = (args V0).joined t c h w - Layer.mean fun k => (args V0).joined t k h w := by
  pointwise [res_main_v122, v116_read, v120_read]

theorem v140_read (t : Fin 4) (c : Fin 96) (h w : Fin 128) :
    (res_main_v140 V0 : Vec Ideal S4x96x128x128 .f32) (ix4 t c h w)
      = Layer.norm (fun k => (args V0).joined t k h w) (args V0).g2 (args V0).b2 c := by
  simp only [← Layer.norm_eq]
  pointwise [res_main_v140, v116_read, v120_read, v122_read, Layer.spread, args]

theorem v153_read (t : Fin 4) (c : Fin 96) (h w : Fin 128) :
    (res_main_v153 V0 : Vec Ideal S4x96x128x128 .f32) (ix4 t c h w) = (args V0).blocked t c h w := by
  unfold res_main_v153
  refine (block_read (res_main_v140 V0) _ _ _ _ t c h w).trans ?_
  exact congrArg (fun f => Layer.block (args V0).wr1 (args V0).br1 (args V0).wr2 (args V0).br2 f c) (funext fun k => v140_read V0 t k h w)

/-- An image, its batch axis restored. -/
theorem restored_read (X : FVec Ideal S4x96x128x128 .f32) (t : Fin 4) (c : Fin 96) (h w : Fin 128) :
    (broadcastInDim S1x4x96x128x128 ![1, 2, 3, 4] bcast_S4x96x128x128_S1x4x96x128x128_1_2_3_4 X) (ix5 0 t c h w) = X (ix4 t c h w) := by
  pointwise []

/-- What the reference returns. -/
def returned : FVec Ideal S1x4x96x128x128 .f32 :=
  broadcastInDim S1x4x96x128x128 ![1, 2, 3, 4] bcast_S4x96x128x128_S1x4x96x128x128_1_2_3_4
    (gatedOf (res_main_v153 V0) (V0 (Proc.devRef .tc main_arg17)) (V0 (Proc.devRef .tc main_arg18)) (V0 (Proc.devRef .tc main_arg19)) (V0 (Proc.devRef .tc main_arg20)))

theorem result_read (t : Fin 4) (c : Fin 96) (h w : Fin 128) : returned V0 (ix5 0 t c h w) = (args V0).result t c h w := by
  refine (restored_read _ t c h w).trans ?_
  refine (gated_read (res_main_v153 V0) _ _ _ _ t c h w).trans ?_
  rw [img_eq _ _ (v153_read V0)]
  rfl

end Cert.ReferenceIdeal.Val
-- ==== Proof.lean ====
module

public import proofs.«01_k».proof.Proof.Chain
public import proofs.«01_k».proof.Proof.Launched
public import proofs.«01_k».proof.Proof.RefFuse
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem
open Idealize.ShloMosaic.StableHlo (launchContents)

/-- Memories that agree on the arguments give both programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) :
    Cert.ReferenceIdeal.Val.args (launchContents m' c) = Cert.KernelIdeal.Val.Host.args m c := by
  unfold Cert.ReferenceIdeal.Val.args Cert.KernelIdeal.Val.Host.args
  dsimp only [launchContents]
  rw [Whole.Args.mk.injEq]
  exact ⟨funext fun t => funext fun ch => funext fun h => funext fun w => congrFun h0 (ix5 0 t ch h w), funext fun j => congrFun h1 (ix1 j), funext fun j => congrFun h2 (ix1 j), funext fun j => congrFun h3 (ix1 j), funext fun j => congrFun h4 (ix1 j), funext fun j => funext fun k => congrFun h5 (ix2 j k), funext fun j => congrFun h6 (ix1 j), funext fun j => funext fun k => congrFun h7 (ix2 j k), funext fun j => congrFun h8 (ix1 j), funext fun j => funext fun k => congrFun h9 (ix2 j k), funext fun j => congrFun h10 (ix1 j), funext fun j => funext fun k => congrFun h11 (ix2 j k), funext fun j => congrFun h12 (ix1 j), funext fun j => funext fun k => congrFun h13 (ix2 j k), funext fun j => congrFun h14 (ix1 j), funext fun j => funext fun k => congrFun h15 (ix2 j k), funext fun j => congrFun h16 (ix1 j), funext fun j => funext fun k => congrFun h17 (ix2 j k), funext fun j => congrFun h18 (ix1 j), funext fun j => funext fun k => congrFun h19 (ix2 j k), funext fun j => congrFun h20 (ix1 j)⟩

/-- The reference's result is the kernel's. -/
theorem result_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e : Cert.ReferenceIdeal.Val.args (launchContents m' c) = Cert.KernelIdeal.Val.Host.args m c) :
    Cert.ReferenceIdeal.Val.returned (launchContents m' c)
      = (Cert.KernelIdeal.Gen.W8 m g c (Proc.devRef .tc Cert.KernelIdeal.main_v21) : Vec Ideal Cert.KernelIdeal.S1x4x96x128x128 .f32) := by
  funext i
  idx_vars i
  obtain rfl : i0 = 0 := Subsingleton.elim _ _
  exact (Cert.ReferenceIdeal.Val.result_read _ i1 i2 i3 i4).trans
    ((congrArg (fun A : Whole.Args => A.result i1 i2 i3 i4) e).trans (Cert.KernelIdeal.Val.Chain.result_read m g c i1 i2 i3 i4).symm)

/-- The reference runs, its arguments unchanged, and it has no semaphore. -/
theorem quiescent_reference : Cert.quiescent_ReferenceIdeal := fun m g _ =>
  θ_run_mono (Cert.ReferenceIdeal.Value.run m g) fun r h => ⟨fun c => (h c).2, sem_eq_zero_of_no_sems (by decide) r.2⟩

/-- Both named constants are minus infinity. -/
theorem preserves : Cert.preserves_Kernel_KernelIdeal :=
  ⟨IdealRules.named_const.statement _ _ .f32 _ _ rfl, IdealRules.named_const.statement _ _ .f32 _ _ rfl⟩

/-- From the same arguments both programs run and end with equal results. -/
theorem algebraic : Cert.algebraic_KernelIdeal_ReferenceIdeal := by
  intro m g m' g' _ agree
  refine ⟨fun c => Cert.KernelIdeal.Gen.W8 m g c (Proc.devRef .tc Cert.KernelIdeal.main_v21), Cert.KernelIdeal.Val.Launch.run m g, ?_⟩
  refine θ_run_mono (Cert.ReferenceIdeal.Value.run m' g') fun r h c => ⟨(h c).1.trans ?_, (h c).2⟩
  obtain ⟨h0, h1, h2, h3, h4, h5, h6, h7, h8, h9, h10, h11, h12, h13, h14, h15, h16, h17, h18, h19, h20⟩ := agree c
  exact result_eq m g m' c (args_eq m m' c h0 h1 h2 h3 h4 h5 h6 h7 h8 h9 h10 h11 h12 h13 h14 h15 h16 h17 h18 h19 h20)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  quiescent_reference, preserves, algebraic⟩

end Cert.Proof

end
